-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x128x16384 : Shape := ⟨3, ![16, 128, 16384]⟩
abbrev S64x128 : Shape := ⟨2, ![64, 128]⟩
abbrev S64 : Shape := ⟨1, ![64]⟩
abbrev S_ : Shape := ⟨0, ![]⟩

class Facts : Prop where
  bcast_S_S16x128x16384 : S_.BroadcastsInDim S16x128x16384 (![] : Fin 0 → Fin S16x128x16384.rank)
  reducesTo_S16x128x16384_S_d0_1_2 : S16x128x16384.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x128x16384 .f32) (main_arg1 : FVec F S64x128 .f32) (main_arg2 : FVec F S64 .f32) (main_arg3 : FVec F S64x128 .f32) : IVec S_ 1 :=
  let main_v0 : FVec F S16x128x16384 .f32 := Host.absf main_arg0
  let main_cst : FVec F S_ .f32 := constant S_ .f32 0x7F800000#32
  let main_v1 : FVec F S16x128x16384 .f32 := broadcastInDim S16x128x16384 ![] bcast_S_S16x128x16384 main_cst
  let main_v2 : IVec S16x128x16384 1 := cmpf .olt main_v0 main_v1
  let main_c : IVec S_ 1 := constantI S_ 1 1#1
  let main_v3 : IVec S_ 1 := (fun x v => Host.reduce IntOp.andi x v reducesTo_S16x128x16384_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x128x16384 : Shape := ⟨3, ![16, 128, 16384]⟩
abbrev S64x128 : Shape := ⟨2, ![64, 128]⟩
abbrev S64 : Shape := ⟨1, ![64]⟩
abbrev S64x1 : Shape := ⟨2, ![64, 1]⟩
abbrev S_ : Shape := ⟨0, ![]⟩
abbrev S64x7 : Shape := ⟨2, ![64, 7]⟩
abbrev S64x136 : Shape := ⟨2, ![64, 136]⟩
abbrev S16x64x128 : Shape := ⟨3, ![16, 64, 128]⟩
abbrev S2x128x16384 : Shape := ⟨3, ![2, 128, 16384]⟩
abbrev S2x64x128 : Shape := ⟨3, ![2, 64, 128]⟩
abbrev S8x2048 : Shape := ⟨2, ![8, 2048]⟩
abbrev S1x128x2048 : Shape := ⟨3, ![1, 128, 2048]⟩
abbrev S128x2048 : Shape := ⟨2, ![128, 2048]⟩
abbrev S2048 : Shape := ⟨1, ![2048]⟩
abbrev S1x2048 : Shape := ⟨2, ![1, 2048]⟩
abbrev S136x2048 : Shape := ⟨2, ![136, 2048]⟩
abbrev S64x2048 : Shape := ⟨2, ![64, 2048]⟩
abbrev S1 : Shape := ⟨1, ![1]⟩
abbrev S1x1 : Shape := ⟨2, ![1, 1]⟩
abbrev S1x64x128 : Shape := ⟨3, ![1, 64, 128]⟩
abbrev S16x8192 : Shape := ⟨2, ![16, 8192]⟩

abbrev nBuf : Space → Nat
  | .hbm => 10
  | .vmem => 6
  | .smem => 0
  | _ => 0

abbrev bufTy : (tb : Table) → Fin (tcTables nBuf tb) → BufTy
  | .hbm, ⟨0, _⟩ => ⟨S16x128x16384, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S64x1, .f32⟩
  | .hbm, ⟨5, _⟩ => ⟨S_, .f32⟩
  | .hbm, ⟨6, _⟩ => ⟨S64x7, .f32⟩
  | .hbm, ⟨7, _⟩ => ⟨S64x136, .f32⟩
  | .hbm, ⟨8, _⟩ => ⟨S16x64x128, .f32⟩
  | .hbm, ⟨9, _⟩ => ⟨S16x8192, .f32⟩
  | .local _ .vmem, ⟨0, _⟩ => ⟨S2x128x16384, .f32⟩
  | .local _ .vmem, ⟨1, _⟩ => ⟨S2x128x16384, .f32⟩
  | .local _ .vmem, ⟨2, _⟩ => ⟨S64x136, .f32⟩
  | .local _ .vmem, ⟨3, _⟩ => ⟨S64x128, .f32⟩
  | .local _ .vmem, ⟨4, _⟩ => ⟨S2x64x128, .f32⟩
  | .local _ .vmem, ⟨5, _⟩ => ⟨S2x64x128, .f32⟩
  | _, _ => ⟨S16x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "eps2" => some ((5316911940649 / 5316911983139663491615228241121378304 : ℝ) : EReal)
  | "log2e" => some (((Real.log 2)⁻¹ : ℝ) : EReal)
  | _ => none
-- ==== ReferenceIdeal.lean ====
abbrev S16x128x16384 : Shape := ⟨3, ![16, 128, 16384]⟩
abbrev S64x128 : Shape := ⟨2, ![64, 128]⟩
abbrev S64 : Shape := ⟨1, ![64]⟩
abbrev S_ : Shape := ⟨0, ![]⟩
abbrev S16x16384 : Shape := ⟨2, ![16, 16384]⟩
abbrev S16x1x16384 : Shape := ⟨3, ![16, 1, 16384]⟩
abbrev S64x16x16384 : Shape := ⟨3, ![64, 16, 16384]⟩
abbrev S16x64x16384 : Shape := ⟨3, ![16, 64, 16384]⟩
abbrev S1x64x1 : Shape := ⟨3, ![1, 64, 1]⟩
abbrev S16x64 : Shape := ⟨2, ![16, 64]⟩
abbrev S16x64x128 : Shape := ⟨3, ![16, 64, 128]⟩
abbrev S16x64x1 : Shape := ⟨3, ![16, 64, 1]⟩
abbrev S1x64x128 : Shape := ⟨3, ![1, 64, 128]⟩
abbrev S16x8192 : Shape := ⟨2, ![16, 8192]⟩
abbrev S16 : Shape := ⟨1, ![16]⟩
abbrev S16x1 : Shape := ⟨2, ![16, 1]⟩

abbrev nBuf : Space → Nat
  | .hbm => 63
  | .vmem => 0
  | .smem => 0
  | _ => 0

abbrev bufTy : (tb : Table) → Fin (tcTables nBuf tb) → BufTy
  | .hbm, ⟨0, _⟩ => ⟨S16x128x16384, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S16x128x16384, .f32⟩
  | .hbm, ⟨5, _⟩ => ⟨S_, .f32⟩
  | .hbm, ⟨6, _⟩ => ⟨S16x16384, .f32⟩
  | .hbm, ⟨7, _⟩ => ⟨S16x1x16384, .f32⟩
  | .hbm, ⟨8, _⟩ => ⟨S16x1x16384, .f32⟩
  | .hbm, ⟨9, _⟩ => ⟨S_, .f32⟩
  | .hbm, ⟨10, _⟩ => ⟨S16x1x16384, .f32⟩
  | .hbm, ⟨11, _⟩ => ⟨S16x1x16384, .f32⟩
  | .hbm, ⟨12, _⟩ => ⟨S16x128x16384, .f32⟩
  | .hbm, ⟨13, _⟩ => ⟨S16x128x16384, .f32⟩
  | .hbm, ⟨14, _⟩ => ⟨S64x16x16384, .f32⟩
  | .hbm, ⟨15, _⟩ => ⟨S16x64x16384, .f32⟩
  | .hbm, ⟨16, _⟩ => ⟨S1x64x1, .f32⟩
  | .hbm, ⟨17, _⟩ => ⟨S16x64x16384, .f32⟩
  | .hbm, ⟨18, _⟩ => ⟨S16x64x16384, .f32⟩
  | .hbm, ⟨19, _⟩ => ⟨S_, .f32⟩
  | .hbm, ⟨20, _⟩ => ⟨S16x16384, .f32⟩
  | .hbm, ⟨21, _⟩ => ⟨S_, .f32⟩
  | .hbm, ⟨22, _⟩ => ⟨S16x16384, .f32⟩
  | .hbm, ⟨23, _⟩ => ⟨S16x16384, .f32⟩
  | .hbm, ⟨24, _⟩ => ⟨S16x1x16384, .f32⟩
  | .hbm, ⟨25, _⟩ => ⟨S16x64x16384, .f32⟩
  | .hbm, ⟨26, _⟩ => ⟨S16x64x16384, .f32⟩
  | .hbm, ⟨27, _⟩ => ⟨S16x64x16384, .f32⟩
  | .hbm, ⟨28, _⟩ => ⟨S_, .f32⟩
  | .hbm, ⟨29, _⟩ => ⟨S16x16384, .f32⟩
  | .hbm, ⟨30, _⟩ => ⟨S16x1x16384, .f32⟩
  | .hbm, ⟨31, _⟩ => ⟨S16x64x16384, .f32⟩
  | .hbm, ⟨32, _⟩ => ⟨S16x64x16384, .f32⟩
  | .hbm, ⟨33, _⟩ => ⟨S_, .f32⟩
  | .hbm, ⟨34, _⟩ => ⟨S16x64, .f32⟩
  | .hbm, ⟨35, _⟩ => ⟨S16x64x128, .f32⟩
  | .hbm, ⟨36, _⟩ => ⟨S16x64x1, .f32⟩
  | .hbm, ⟨37, _⟩ => ⟨S1x64x128, .f32⟩
  | .hbm, ⟨38, _⟩ => ⟨S16x64x128, .f32⟩
  | .hbm, ⟨39, _⟩ => ⟨S16x64x128, .f32⟩
  | .hbm, ⟨40, _⟩ => ⟨S16x64x128, .f32⟩
  | .hbm, ⟨41, _⟩ => ⟨S16x64x128, .f32⟩
  | .hbm, ⟨42, _⟩ => ⟨S16x64x128, .f32⟩
  | .hbm, ⟨43, _⟩ => ⟨S_, .f32⟩
  | .hbm, ⟨44, _⟩ => ⟨S16x64, .f32⟩
  | .hbm, ⟨45, _⟩ => ⟨S16x64x1, .f32⟩
  | .hbm, ⟨46, _⟩ => ⟨S16x64x1, .f32⟩
  | .hbm, ⟨47, _⟩ => ⟨S_, .f32⟩
  | .hbm, ⟨48, _⟩ => ⟨S16x64x1, .f32⟩
  | .hbm, ⟨49, _⟩ => ⟨S16x64x1, .f32⟩
  | .hbm, ⟨50, _⟩ => ⟨S16x64x128, .f32⟩
  | .hbm, ⟨51, _⟩ => ⟨S16x64x128, .f32⟩
  | .hbm, ⟨52, _⟩ => ⟨S16x8192, .f32⟩
  | .hbm, ⟨53, _⟩ => ⟨S16x8192, .f32⟩
  | .hbm, ⟨54, _⟩ => ⟨S_, .f32⟩
  | .hbm, ⟨55, _⟩ => ⟨S16, .f32⟩
  | .hbm, ⟨56, _⟩ => ⟨S16x1, .f32⟩
  | .hbm, ⟨57, _⟩ => ⟨S16x1, .f32⟩
  | .hbm, ⟨58, _⟩ => ⟨S_, .f32⟩
  | .hbm, ⟨59, _⟩ => ⟨S16x1, .f32⟩
  | .hbm, ⟨60, _⟩ => ⟨S16x1, .f32⟩
  | .hbm, ⟨61, _⟩ => ⟨S16x8192, .f32⟩
  | .hbm, ⟨62, _⟩ => ⟨S16x8192, .f32⟩
  | _, _ => ⟨S16x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_v0 : Ref sig .tc := ⟨.hbm, 53, rfl⟩
abbrev main_call2_cst : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Proof.Step.lean ====
/- What one grid point's body computes, in the words of this proof: the update of the 64 × 136 accumulator by one chunk
   of 2048 positions, the normalisation that follows the eight chunks of an element, and the two elements of the
   block. The body's own values are compositions of these by definition. -/
module

public import proofs.«01_k».proof.Proof.Gen.KernelIdeal.Frame

@[expose] public section

noncomputable section

namespace Cert.NetVlad

open Idealize.ShloMosaic Cert.KernelIdeal Cert.KernelIdeal.Gen

variable {F : FTy → Type} [FloatOps F] [Named F]

/-- The exponentials of a chunk: two to the (score less the largest score of the column) times the column's scale. -/
def expo (wa : FVec F S64x136 .f32) (blk : Vec F S1x128x2048 .f32) : FVec F S64x2048 .f32 :=
  exp2 (mulf (k0_pay15 wa k0_pay3 blk) (k0_pay16 blk))

/-- The sum of a column's exponentials over the 64 clusters. -/
def denom (wa : FVec F S64x136 .f32) (blk : Vec F S1x128x2048 .f32) : FVec F S1x2048 .f32 :=
  shapeCast S1x2048 (multiReduction .add [0] S2048 (expo wa blk) 0x00000000#32 reduces_S64x2048_S2048 (.inl rfl) rfl)
    shapeCasts_S2048_S1x2048

/-- The assignment of each position to each cluster, divided by the position's norm. -/
def assign (wa : FVec F S64x136 .f32) (blk : Vec F S1x128x2048 .f32) : FVec F S64x2048 .f32 :=
  mulf (expo wa blk) (broadcastTo S64x2048
    (mulf (divf (broadcast S1x2048 (Scalar.ofBits .f32 0x3F800000#32)) (denom wa blk)) (k0_pay13 blk))
    broadcasts_S1x2048_S64x2048)

/-- The accumulator after one chunk: the assignments times the chunk's descriptors and norms are added. -/
def step (wa : FVec F S64x136 .f32) (acc : FVec F S64x136 .f32) (blk : Vec F S1x128x2048 .f32) : FVec F S64x136 .f32 :=
  addf acc (matmul dot_S64x2048_S136x2048_S64x136_1_1_0_0_n_n none (assign wa blk) (k0_pay14 k0_pay3 blk)
    (constant S64x136 .f32 0x00000000#32))

/-- The accumulator after an element's eight chunks, from zero. -/
def chain (wa : FVec F S64x136 .f32) (b : Fin 8 → Vec F S1x128x2048 .f32) : FVec F S64x136 .f32 :=
  step wa (step wa (step wa (step wa (step wa (step wa (step wa (step wa k0_pay31 (b 0)) (b 1)) (b 2)) (b 3)) (b 4)) (b 5))
    (b 6)) (b 7)

/-- The aggregate of an element about the centroids: columns 0 to 127 of the accumulator less column 128 times the
    centroids. -/
def centred (cent : Vec F S64x128 .f32) (acc : FVec F S64x136 .f32) : FVec F S64x128 .f32 :=
  subf (extractStridedSlice S64x128 ![0, 0] acc slices_S64x136_o0_0_S64x128)
    (mulf (broadcastTo S64x128 (extractStridedSlice S64x1 ![0, 128] acc slices_S64x136_o0_128_S64x1)
      broadcasts_S64x1_S64x128) cent)

/-- The sums of squares of a matrix's rows. -/
def rowSq (v : FVec F S64x128 .f32) : FVec F S64x1 .f32 :=
  shapeCast S64x1 (multiReduction .add [1] S64 (mulf v v) 0x00000000#32 reduces_S64x128_S64 (.inl rfl) rfl)
    shapeCasts_S64_S64x1

/-- The block's element from its accumulator: centred, then normalised by row and as a whole. -/
def finish (cent : Vec F S64x128 .f32) (acc : FVec F S64x136 .f32) : FVec F S1x64x128 .f32 :=
  k0_pay1 (centred cent acc) (rowSq (centred cent acc))

/-! ## The body's values are these -/

section
variable (v1 acc : FVec F S64x136 .f32) (b b' : Vec F S1x128x2048 .f32) (cent : Vec F S64x128 .f32)

/-- This value of the body is the accumulator after one more chunk. -/
theorem pay5_eq : k0_pay5 v1 k0_pay3 acc b = step v1 acc b := rfl

/-- The first element's accumulator after its first chunk. -/
theorem pay4_eq (w : Vec F S64x136 .f32) : k0_pay4 w b = step (k0_pay2 w) k0_pay31 b := rfl

/-- This value of the body is the accumulator after one more chunk. -/
theorem pay10_eq : k0_pay10 v1 k0_pay3 acc (k0_pay6 b) (k0_pay8 b) (Scalar.ofBits .f32 0x00000000#32) (k0_pay9 b)
    = step v1 acc b := rfl

/-- This value of the body is the accumulator after two more chunks. -/
theorem pay17_eq : k0_pay17 v1 k0_pay3 acc (k0_pay13 b) (k0_pay14 k0_pay3 b) (k0_pay15 v1 k0_pay3 b) (k0_pay16 b) b'
    = step v1 (step v1 acc b) b' := rfl

/-- This value of the body is the accumulator after one more chunk. -/
theorem pay18_eq : k0_pay18 v1 k0_pay3 acc b = step v1 acc b := rfl

/-- This value of the body is the accumulator after one more chunk. -/
theorem pay23_eq : k0_pay23 v1 k0_pay3 acc (k0_pay19 b) (k0_pay21 b) (Scalar.ofBits .f32 0x00000000#32) (k0_pay22 b)
    = step v1 acc b := rfl

/-- The first element's result: the finished accumulator after its last chunk. -/
theorem pay30_eq : k0_pay30 cent acc (k0_pay26 b) (k0_pay27 k0_pay3 b) (k0_pay28 v1 k0_pay3 b) (k0_pay29 b)
    = finish cent (step v1 acc b) := rfl

/-- This value of the body is the accumulator after one more chunk. -/
theorem pay34_eq : k0_pay34 v1 k0_pay3 acc (k0_pay32 b) (k0_pay33 b) = step v1 acc b := rfl

/-- This value of the body is the accumulator after one more chunk. -/
theorem pay41_eq : k0_pay41 acc (k0_pay37 b) (k0_pay38 k0_pay3 b) (k0_pay39 v1 k0_pay3 b) (k0_pay40 v1 k0_pay3 b)
    = step v1 acc b := rfl

/-- This value of the body is the accumulator after two more chunks. -/
theorem pay48_eq : k0_pay48 v1 k0_pay3 acc (k0_pay44 b) (k0_pay45 k0_pay3 b) (k0_pay46 v1 k0_pay3 b)
    (k0_pay47 v1 k0_pay3 b) b' = step v1 (step v1 acc b) b' := rfl

/-- This value of the body is the accumulator after one more chunk. -/
theorem pay51_eq : k0_pay51 v1 k0_pay3 acc (k0_pay49 b) (k0_pay50 b) = step v1 acc b := rfl

/-- This value of the body is the accumulator after one more chunk. -/
theorem pay58_eq : k0_pay58 acc (k0_pay54 b) (k0_pay55 k0_pay3 b) (k0_pay56 v1 k0_pay3 b) (k0_pay57 v1 k0_pay3 b)
    = step v1 acc b := rfl

/-- The second element's centred values, after its last two chunks. -/
theorem pay65_eq : k0_pay65 v1 cent k0_pay3 acc (k0_pay61 b) (k0_pay62 k0_pay3 b) (k0_pay63 v1 k0_pay3 b)
    (k0_pay64 v1 k0_pay3 b) b' = centred cent (step v1 (step v1 acc b) b') := rfl

/-- The second element's row sums of squares, from its centred values. -/
theorem pay66_eq (v503 : FVec F S1x2048 .f32) (v509 : FVec F S136x2048 .f32) (v519 : FVec F S64x2048 .f32)
    (v523 : FVec F S1x2048 .f32) :
    k0_pay66 v1 cent k0_pay3 acc v503 v509 v519 v523 b' = rowSq (k0_pay65 v1 cent k0_pay3 acc v503 v509 v519 v523 b') := rfl

end

/-- The chunks of the block's first element. -/
def blocksA (x0 : Vec F S2x128x16384 .f32) : Fin 8 → Vec F S1x128x2048 .f32 :=
  ![View.ld x0 r0_2, View.ld x0 r0_3, View.ld x0 r0_4, View.ld x0 r0_5, View.ld x0 r0_6, View.ld x0 r0_7, View.ld x0 r0_8,
    View.ld x0 r0_9]

/-- The chunks of the block's second element. -/
def blocksB (x0 : Vec F S2x128x16384 .f32) : Fin 8 → Vec F S1x128x2048 .f32 :=
  ![View.ld x0 r0_11, View.ld x0 r0_12, View.ld x0 r0_13, View.ld x0 r0_14, View.ld x0 r0_15, View.ld x0 r0_16,
    View.ld x0 r0_17, View.ld x0 r0_18]

/-- The block a grid point writes: each of its two elements is the finished accumulator over that element's chunks. -/
theorem out_eq (x0 : Vec F S2x128x16384 .f32) (x1 : Vec F S64x136 .f32) (x2 : Vec F S64x128 .f32) :
    out0_3 x0 x1 x2 = View.canon
      [⟨r0_19, finish (View.ld x2 r0_1) (chain (k0_pay2 (View.ld x1 r0_0)) (blocksB x0))⟩,
       ⟨r0_10, finish (View.ld x2 r0_1) (chain (k0_pay2 (View.ld x1 r0_0)) (blocksA x0))⟩] := by
  unfold_out out0_3
  simp only [pay66_eq, pay65_eq, pay58_eq, pay51_eq, pay48_eq, pay41_eq, pay34_eq, pay30_eq, pay23_eq, pay18_eq, pay17_eq,
    pay10_eq, pay5_eq, pay4_eq]
  rfl

end Cert.NetVlad

end
-- ==== Proof.Scalars.lean ====
/- The real-number model of one position's soft assignment, and the scalar laws on extended reals this proof uses: the
   two constants, the largest of finitely many reals, and the two spellings of a normalisation. -/
module

public import Idealize.ShloMosaic.PureOps.Ideal
public import Idealize.ShloMosaic.PureOps.Ideal.Laws
public import Mathlib.Analysis.SpecialFunctions.Pow.Real

@[expose] public section

noncomputable section

namespace Cert.NetVlad

open Idealize.ShloMosaic
open scoped BigOperators

/-! ## The model -/

/-- The floor under every norm: the real number the reference's literal 1e-12 denotes. -/
def eps : ℝ := 2305843 / 2305843009213693952

/-- The floor is positive. -/
theorem eps_pos : 0 < eps := by unfold eps; norm_num

/-- A descriptor's norm, at least `eps`. -/
def nrm (v : Fin 128 → ℝ) : ℝ := max (Real.sqrt (∑ c, v c * v c)) eps

/-- A clamped norm is positive. -/
theorem nrm_pos (v : Fin 128 → ℝ) : 0 < nrm v := lt_max_of_lt_right eps_pos

/-- A clamped norm is not zero. -/
theorem nrm_ne (v : Fin 128 → ℝ) : nrm v ≠ 0 := (nrm_pos v).ne'

/-- A sum of squares is not negative. -/
theorem sq_nonneg_sum (v : Fin 128 → ℝ) : 0 ≤ ∑ c, v c * v c := Finset.sum_nonneg fun c _ => mul_self_nonneg (v c)

/-- The normalised descriptor. -/
def unit (v : Fin 128 → ℝ) (c : Fin 128) : ℝ := v c / nrm v

/-! ## Real-number facts -/

/-- The square root of the clamped sum of squares is the clamped norm. -/
theorem sqrt_clamp (s : ℝ) : Real.sqrt (max s (eps * eps)) = max (Real.sqrt s) eps := by
  have h : Real.sqrt (eps * eps) = eps := Real.sqrt_mul_self eps_pos.le
  rcases le_total s (eps * eps) with hs | hs
  · rw [max_eq_right hs, h, max_eq_right (by rw [← h]; exact Real.sqrt_le_sqrt hs)]
  · rw [max_eq_left hs, max_eq_left (by rw [← h]; exact Real.sqrt_le_sqrt hs)]

/-- Two to the power `y / log 2` is `e` to the power `y`. -/
theorem rpow_two (y : ℝ) : Real.rpow 2 (y * (Real.log 2)⁻¹) = Real.exp y := by
  have h2 : Real.log 2 ≠ 0 := (Real.log_pos (by norm_num)).ne'
  show (2 : ℝ) ^ (y * (Real.log 2)⁻¹) = _
  rw [Real.rpow_def_of_pos (by norm_num)]
  congr 1
  field_simp

/-! ## Extended reals -/

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, as an extended real. -/
theorem coe_max (a b : ℝ) : ((max a b : ℝ) : EReal) = max (a : EReal) (b : EReal) :=
  EReal.coe_strictMono.monotone.map_max

/-- A square of an extended real is not negative. -/
theorem mul_self_nonneg' (a : EReal) : 0 ≤ a * a := by
  rcases le_total 0 a with h | h
  · exact EReal.mul_nonneg h h
  · exact EReal.mul_nonneg_iff.mpr (.inr ⟨h, h⟩)

/-- Dividing by the clamped root of a sum of squares is multiplying by the inverse root of the clamped sum. -/
theorem div_clamp (v s : EReal) (hs : 0 ≤ s) :
    Ideal.div v (max (Ideal.sqrt s) (eps : EReal)) = v * Ideal.rsqrt (max s ((eps * eps : ℝ) : EReal)) := by
  induction s using EReal.rec with
  | bot => exact absurd hs (by simp)
  | top =>
    rw [Ideal.sqrt_top, max_eq_left le_top, max_eq_left le_top, Ideal.rsqrt_top, Ideal.div, if_neg (by simp), EReal.inv_top]
  | coe r =>
    have hr : 0 ≤ r := by exact_mod_cast hs
    have he : 0 < max r (eps * eps) := lt_max_of_lt_right (mul_pos eps_pos eps_pos)
    have hm : max (Real.sqrt r) eps ≠ 0 := (lt_max_of_lt_right eps_pos).ne'
    rw [Ideal.sqrt_coe, if_neg (not_lt.mpr hr), ← coe_max, ← coe_max, Ideal.rsqrt_coe, if_neg (not_lt.mpr he.le),
      if_neg he.ne', sqrt_clamp, Ideal.div_coe hm, one_div]

/-- The reference's literal 1e-12. -/
theorem ofBits_eps : Ideal.ofBits .f32 0x2B8CBCCC#32 = ((eps : ℝ) : EReal) := by
  unfold eps
  simp [Ideal.ofBits, Ideal.ieee, -EReal.coe_mul]
  norm_num

/-- The literal −∞. -/
theorem ofBits_negInf : Ideal.ofBits .f32 0xFF800000#32 = (⊥ : EReal) := by
  simp [Ideal.ofBits, Ideal.ieee]

end Cert.NetVlad

end
-- ==== Proof.Softmax.lean ====
/- The softmax of 64 extended reals. It is proper when none is +∞ and not all are −∞: an entry of −∞ then has the share
   zero. Otherwise every entry less the largest is −∞. -/
module

public import proofs.«01_k».proof.Proof.Scalars

@[expose] public section

noncomputable section

namespace Cert.NetVlad

open Idealize.ShloMosaic
open scoped BigOperators

/-! ## Weights -/

/-- The exponential of an extended real below +∞, as a real number. -/
def wt (l : EReal) : ℝ := (Ideal.exp l).toReal

/-- The weight of −∞ is zero. -/
theorem wt_bot : wt ⊥ = 0 := by simp [wt]

/-- The weight of a real number is its exponential. -/
theorem wt_coe (r : ℝ) : wt (r : EReal) = Real.exp r := by simp [wt]

/-- Below +∞ the weight is the exponential. -/
theorem exp_eq_wt (l : EReal) (h : l ≠ ⊤) : Ideal.exp l = ((wt l : ℝ) : EReal) := by
  induction l using EReal.rec with
  | bot => simp [wt_bot]
  | top => exact absurd rfl h
  | coe r => rw [wt_coe, Ideal.exp_coe]

/-- A weight is not negative. -/
theorem wt_nonneg (l : EReal) : 0 ≤ wt l := by
  induction l using EReal.rec with
  | bot => simp [wt]
  | top => simp [wt]
  | coe r => rw [wt_coe]; exact (Real.exp_pos r).le

/-- Taking a real number off an exponent scales the weight. -/
theorem wt_sub (l : EReal) (a : ℝ) : wt (l - a) = wt l * Real.exp (-a) := by
  induction l using EReal.rec with
  | bot => simp [wt]
  | top => simp [wt]
  | coe r => rw [← EReal.coe_sub, wt_coe, wt_coe, sub_eq_add_neg, Real.exp_add]

/-- Taking the same real number off every exponent leaves the quotient by the sum as it was. -/
theorem wt_shift {n : ℕ} (l : Fin n → EReal) (a : ℝ) (k : Fin n) :
    wt (l k - a) / ∑ k', wt (l k' - a) = wt (l k) / ∑ k', wt (l k') := by
  simp only [wt_sub]
  rw [← Finset.sum_mul, mul_div_mul_right _ _ (Real.exp_pos _).ne']

/-- Two to the power `y / log 2` is `e` to the power `y`, also at the infinities. -/
theorem exp2_scale (y : EReal) : Ideal.exp2 (y * (((Real.log 2)⁻¹ : ℝ) : EReal)) = Ideal.exp y := by
  have h2 : (0 : ℝ) < (Real.log 2)⁻¹ := inv_pos.mpr (Real.log_pos (by norm_num))
  induction y using EReal.rec with
  | bot => rw [EReal.bot_mul_coe_of_pos h2]; rfl
  | top => rw [EReal.top_mul_coe_of_pos h2]; rfl
  | coe r => rw [← EReal.coe_mul, Ideal.exp2_coe, rpow_two, Ideal.exp_coe]

/-! ## Proper and improper -/

/-- None is +∞ and not all are −∞. -/
def Proper {n : ℕ} (l : Fin n → EReal) : Prop := (∀ k, l k ≠ ⊤) ∧ ∃ k, l k ≠ ⊥

/-- The largest of proper entries is a real number. -/
theorem Proper.sup {n : ℕ} {l : Fin n → EReal} (h : Proper l) : ∃ M : ℝ, Finset.univ.sup l = (M : EReal) := by
  obtain ⟨k, hk⟩ := h.2
  have h1 : Finset.univ.sup l < ⊤ := (Finset.sup_lt_iff bot_lt_top).mpr fun k _ => lt_top_iff_ne_top.mpr (h.1 k)
  have h2 : ⊥ < Finset.univ.sup l := (bot_lt_iff_ne_bot.mpr hk).trans_le (Finset.le_sup (Finset.mem_univ k))
  exact ⟨_, (EReal.coe_toReal h1.ne h2.ne').symm⟩

/-- An improper entry less the largest is −∞. -/
theorem sub_sup_of_improper {n : ℕ} {l : Fin n → EReal} (h : ¬ Proper l) (k : Fin n) : l k - Finset.univ.sup l = ⊥ := by
  by_cases ht : ∃ k, l k = ⊤
  · obtain ⟨k', hk'⟩ := ht
    have hs : Finset.univ.sup l = ⊤ := top_le_iff.mp (hk' ▸ Finset.le_sup (f := l) (Finset.mem_univ k'))
    rw [hs, EReal.sub_top]
  · have hb : ∀ k, l k = ⊥ := by
      by_contra hn
      exact h ⟨fun k e => ht ⟨k, e⟩, not_forall.mp hn⟩
    rw [hb k, EReal.bot_sub]

/-- The weights of proper entries have a positive sum. -/
theorem Proper.sum_pos {n : ℕ} {l : Fin n → EReal} (h : Proper l) : 0 < ∑ k, wt (l k) := by
  obtain ⟨k, hk⟩ := h.2
  refine Finset.sum_pos' (fun k _ => wt_nonneg _) ⟨k, Finset.mem_univ k, ?_⟩
  rw [← EReal.coe_toReal (h.1 k) hk, wt_coe]
  exact Real.exp_pos _

/-- Entries less a real number are proper as they were. -/
theorem Proper.sub {n : ℕ} {l : Fin n → EReal} (h : Proper l) (a : ℝ) : Proper fun k => l k - (a : EReal) := by
  have ht : ∀ x : EReal, x ≠ ⊤ → x - (a : EReal) ≠ ⊤ := fun x hx => by
    induction x using EReal.rec with
    | bot => rw [EReal.bot_sub]; exact bot_ne_top
    | top => exact absurd rfl hx
    | coe r => rw [← EReal.coe_sub]; exact EReal.coe_ne_top _
  have hb : ∀ x : EReal, x ≠ ⊥ → x - (a : EReal) ≠ ⊥ := fun x hx => by
    induction x using EReal.rec with
    | bot => exact absurd rfl hx
    | top => rw [EReal.top_sub_coe]; exact top_ne_bot
    | coe r => rw [← EReal.coe_sub]; exact EReal.coe_ne_bot _
  exact ⟨fun k => ht _ (h.1 k), h.2.imp fun k hk => hb _ hk⟩

/-! ## The logits and the shares -/

/-- The product of a cluster's weights and a normalised descriptor. -/
def dotp (w : Fin 64 → Fin 128 → ℝ) (v : Fin 128 → ℝ) (k : Fin 64) : ℝ := ∑ c, w k c * unit v c

/-- Cluster `k`'s logit at a descriptor. -/
def logit (w : Fin 64 → Fin 128 → ℝ) (b : Fin 64 → EReal) (v : Fin 128 → ℝ) (k : Fin 64) : EReal := (dotp w v k : EReal) + b k

open Classical in
/-- Cluster `k`'s share of a descriptor: the softmax of the logits, and zero when the biases are improper. -/
def soft (w : Fin 64 → Fin 128 → ℝ) (b : Fin 64 → EReal) (v : Fin 128 → ℝ) (k : Fin 64) : ℝ :=
  if Proper b then wt (logit w b v k) / ∑ k', wt (logit w b v k') else 0

/-- The logits scaled by a positive number are proper when the biases are. -/
theorem proper_scaled (w : Fin 64 → Fin 128 → ℝ) (b : Fin 64 → EReal) (v : Fin 128 → ℝ) (s : ℝ) (hs : 0 < s) :
    Proper (fun k => logit w b v k * (s : EReal)) ↔ Proper b := by
  have ht : ∀ k, logit w b v k * (s : EReal) = ⊤ ↔ b k = ⊤ := fun k => by
    unfold logit
    induction b k using EReal.rec with
    | bot => rw [EReal.add_bot, EReal.bot_mul_coe_of_pos hs]
    | top => rw [EReal.coe_add_top, EReal.top_mul_coe_of_pos hs]
    | coe r =>
      rw [← EReal.coe_add, ← EReal.coe_mul]
      exact iff_of_false (EReal.coe_ne_top _) (EReal.coe_ne_top _)
  have hb : ∀ k, logit w b v k * (s : EReal) = ⊥ ↔ b k = ⊥ := fun k => by
    unfold logit
    induction b k using EReal.rec with
    | bot => rw [EReal.add_bot, EReal.bot_mul_coe_of_pos hs]
    | top => rw [EReal.coe_add_top, EReal.top_mul_coe_of_pos hs]
    | coe r =>
      rw [← EReal.coe_add, ← EReal.coe_mul]
      exact iff_of_false (EReal.coe_ne_bot _) (EReal.coe_ne_bot _)
  simp only [Proper, ne_eq, ht, hb]

/-- The logits are proper when the biases are. -/
theorem proper_logit (w : Fin 64 → Fin 128 → ℝ) (b : Fin 64 → EReal) (v : Fin 128 → ℝ) : Proper (logit w b v) ↔ Proper b := by
  have h := proper_scaled w b v 1 one_pos
  simpa only [EReal.coe_one, mul_one] using h

/-- The share from exponents that are the logits less a real number. -/
theorem soft_shift (w : Fin 64 → Fin 128 → ℝ) (b : Fin 64 → EReal) (v : Fin 128 → ℝ) (h : Proper b) (a : ℝ) (k : Fin 64) :
    wt (logit w b v k - a) / ∑ k', wt (logit w b v k' - a) = soft w b v k := by
  rw [wt_shift, soft, if_pos h]

/-- The scaled logit less a real number, over the scale, is the logit less a real number. -/
theorem unscale (w : Fin 64 → Fin 128 → ℝ) (b : Fin 64 → EReal) (v : Fin 128 → ℝ) (s : ℝ) (hs : 0 < s) (M : ℝ) (k : Fin 64) :
    (logit w b v k * (s : EReal) - (M : EReal)) * ((s⁻¹ : ℝ) : EReal) = logit w b v k - ((M / s : ℝ) : EReal) := by
  have hi : 0 < s⁻¹ := inv_pos.mpr hs
  unfold logit
  induction b k using EReal.rec with
  | bot => rw [EReal.add_bot, EReal.bot_mul_coe_of_pos hs, EReal.bot_sub, EReal.bot_sub, EReal.bot_mul_coe_of_pos hi]
  | top =>
    rw [EReal.coe_add_top, EReal.top_mul_coe_of_pos hs, EReal.top_sub_coe, EReal.top_sub_coe, EReal.top_mul_coe_of_pos hi]
  | coe r =>
    rw [← EReal.coe_add, ← EReal.coe_mul, ← EReal.coe_sub, ← EReal.coe_sub, ← EReal.coe_mul, sub_mul,
      mul_inv_cancel_right₀ hs.ne', div_eq_mul_inv]

end Cert.NetVlad

end
-- ==== Proof.StepValue.lean ====
/- One chunk's update of the accumulator, read at an index, when the chunk and the weights are real
   and the biases any: each entry grows by
   the sum over the chunk's positions of the position's share times its normalised descriptor (columns 0 to 127) or times
   one (column 128). -/
module

public import proofs.«01_k».proof.Proof.Step
public import proofs.«01_k».proof.Proof.Softmax
public import Idealize.ShloMosaic.Lib.Pointwise.Tactic
public import Idealize.ShloMosaic.Lib.Pointwise.Reduce
public import Idealize.ShloMosaic.Lib.Pointwise.ReduceUnfold
public import Idealize.ShloMosaic.Lib.Pointwise.Contract
public import Idealize.ShloMosaic.Lib.Pointwise.Reshape
public import Idealize.ShloMosaic.Lib.Pointwise.Select
public import Idealize.ShloMosaic.Lib.ValueIdx

@[expose] public section

noncomputable section

namespace Cert.NetVlad

open Idealize.ShloMosaic Cert.KernelIdeal Cert.KernelIdeal.Gen
open scoped BigOperators

/-- The named floor under a sum of squares is the square of the reference's floor. -/
theorem eps2_val : Named.named (F := Ideal) Cert.KernelIdeal.κ "eps2" (φ := .f32) 0x179ABE15#32 = ((eps * eps : ℝ) : EReal) := by
  rw [IdealRules.named_const.ideal_named_scalar _ _ _ _ rfl]
  unfold eps
  norm_num

/-- The named base-2 logarithm of `e`. -/
theorem log2e_val : Named.named (F := Ideal) Cert.KernelIdeal.κ "log2e" (φ := .f32) 0x3FB8AA3B#32 = (((Real.log 2)⁻¹ : ℝ) : EReal) :=
  IdealRules.named_const.ideal_named_scalar _ _ _ _ rfl

/-- A descriptor with its norm in row 128 and zeros below. -/
def aug (v : Fin 128 → ℝ) (j : Fin 136) : ℝ := if h : j.val < 128 then v ⟨j, h⟩ else if j.val = 128 then nrm v else 0

/-- A cluster's weights with its bias in column 128 and zeros after. -/
def waug (w : Fin 64 → Fin 128 → ℝ) (b : Fin 64 → EReal) (k : Fin 64) (j : Fin 136) : EReal :=
  if h : j.val < 128 then (w k ⟨j, h⟩ : EReal) else if j.val = 128 then b k else 0

/-- The scores of a descriptor against a cluster's weights and bias: the logit times the norm. -/
theorem sum_waug_aug (w : Fin 64 → Fin 128 → ℝ) (b : Fin 64 → EReal) (v : Fin 128 → ℝ) (k : Fin 64) :
    ∑ j, waug w b k j * ((aug v j : ℝ) : EReal) = logit w b v k * ((nrm v : ℝ) : EReal) := by
  have h : ∑ j : Fin (128 + 8), waug w b k j * ((aug v j : ℝ) : EReal) = _ := Fin.sum_univ_add _
  refine h.trans ?_
  have e1 : ∀ i : Fin 128, waug w b k (Fin.castAdd 8 i) * ((aug v (Fin.castAdd 8 i) : ℝ) : EReal)
      = ((w k i * v i : ℝ) : EReal) := fun i => by
    simp [waug, aug]
  have e2 : ∀ i : Fin 8, waug w b k (Fin.natAdd 128 i) * ((aug v (Fin.natAdd 128 i) : ℝ) : EReal)
      = if i = 0 then b k * ((nrm v : ℝ) : EReal) else 0 := fun i => by
    by_cases hi : i = 0 <;> simp [waug, aug, hi, Fin.ext_iff]
  have hd : ∑ i, w k i * v i = dotp w v k * nrm v := by
    rw [dotp, Finset.sum_mul]
    refine Finset.sum_congr rfl fun c _ => ?_
    rw [unit, mul_assoc, div_mul_cancel₀ _ (nrm_ne v)]
  rw [Finset.sum_congr rfl fun i _ => e1 i, Finset.sum_congr rfl fun i _ => e2 i, Finset.sum_ite_eq' Finset.univ (0 : Fin 8),
    if_pos (Finset.mem_univ _), ← coe_sum, hd, logit]
  induction b k using EReal.rec with
  | bot => rw [EReal.add_bot, EReal.bot_mul_coe_of_pos (nrm_pos v), EReal.add_bot]
  | top => rw [EReal.coe_add_top, EReal.top_mul_coe_of_pos (nrm_pos v), EReal.coe_add_top]
  | coe r => rw [← EReal.coe_add, ← EReal.coe_mul, ← EReal.coe_mul, ← EReal.coe_add, add_mul]

/-- A selection on "row number is zero". -/
theorem select_row {α : Type} (n : ℕ) (h : n < 8) (a z : α) :
    Scalar.select (IntOp.cmpi .eq (BitVec.ofNat 32 n) 0#32) a z = if n = 0 then a else z := by
  interval_cases n <;> rfl

section
variable (blk : Vec Ideal S1x128x2048 .f32) (x : Fin 2048 → Fin 128 → ℝ)

/-- The clamped sum of squares of each position's descriptor. -/
theorem clamp_apply (hb : ∀ c s, blk (ix3 0 c s) = ((x s c : ℝ) : EReal)) (s : Fin 2048) :
    k0_pay12 blk (ix2 0 s) = ((max (∑ c, x s c * x s c) (eps * eps) : ℝ) : EReal) := by
  unfold k0_pay12 k0_pay11
  pointwise
  rw [eps2_val, coe_max, coe_sum]
  simp only [hb, EReal.coe_mul]

/-- Its root is the norm. -/
theorem sqrt_apply (hb : ∀ c s, blk (ix3 0 c s) = ((x s c : ℝ) : EReal)) (s : Fin 2048) :
    Ideal.sqrt (k0_pay12 blk (ix2 0 s)) = ((nrm (x s) : ℝ) : EReal) := by
  rw [clamp_apply blk x hb, Ideal.sqrt_coe, if_neg (not_lt.mpr (le_max_of_le_left (sq_nonneg_sum _))), sqrt_clamp]
  rfl

/-- Its inverse root is the norm's inverse. -/
theorem rsqrt_apply (hb : ∀ c s, blk (ix3 0 c s) = ((x s c : ℝ) : EReal)) (s : Fin 2048) :
    Ideal.rsqrt (k0_pay12 blk (ix2 0 s)) = (((nrm (x s))⁻¹ : ℝ) : EReal) := by
  have h : 0 < max (∑ c, x s c * x s c) (eps * eps) := lt_max_of_lt_right (mul_pos eps_pos eps_pos)
  rw [clamp_apply blk x hb, Ideal.rsqrt_coe, if_neg (not_lt.mpr h.le), if_neg h.ne', sqrt_clamp]
  rfl

/-- The chunk with the norms in row 128. -/
theorem aug_apply (hb : ∀ c s, blk (ix3 0 c s) = ((x s c : ℝ) : EReal)) (j : Fin 136) (s : Fin 2048) :
    k0_pay14 k0_pay3 blk (ix2 j s) = ((aug (x s) j : ℝ) : EReal) := by
  have hs := sqrt_apply blk x hb s
  unfold k0_pay14
  generalize k0_pay12 blk = z at hs ⊢
  unfold k0_pay11 k0_pay3
  pointwise
  unfold aug
  by_cases h : j.val < 128
  · rw [dif_pos h, dif_pos h]; exact hb _ _
  · have hj := j.isLt
    rw [dif_neg h, dif_neg h, select_row _ (by omega), hs]
    by_cases e : j.val = 128
    · rw [if_pos (by omega), if_pos e]
    · rw [if_neg (by omega), if_neg e]; rfl

variable (wa : FVec Ideal S64x136 .f32) (w : Fin 64 → Fin 128 → ℝ) (b : Fin 64 → EReal)

/-- The scores less the column's largest. -/
theorem score_apply (hb : ∀ c s, blk (ix3 0 c s) = ((x s c : ℝ) : EReal))
    (hw : ∀ k j, wa (ix2 k j) = waug w b k j) (k : Fin 64) (s : Fin 2048) :
    k0_pay15 wa k0_pay3 blk (ix2 k s) = logit w b (x s) k * ((nrm (x s) : ℝ) : EReal)
      - Finset.univ.sup fun k => logit w b (x s) k * ((nrm (x s) : ℝ) : EReal) := by
  have ha := fun j => aug_apply blk x hb j s
  unfold k0_pay15
  generalize k0_pay14 k0_pay3 blk = z at ha ⊢
  pointwise
  have hr : ∀ k, ∑ j, wa (ix2 k j) * z (ix2 j s) = logit w b (x s) k * ((nrm (x s) : ℝ) : EReal) := fun k => by
    rw [← sum_waug_aug]
    exact Finset.sum_congr rfl fun j _ => by rw [hw, ha]
  simp only [hr]
  rw [ofBits_negInf]
  rfl

/-- The scale of a column's exponents. -/
theorem scale_apply (hb : ∀ c s, blk (ix3 0 c s) = ((x s c : ℝ) : EReal)) (k : Fin 64) (s : Fin 2048) :
    k0_pay16 blk (ix2 k s) = (((nrm (x s))⁻¹ * (Real.log 2)⁻¹ : ℝ) : EReal) := by
  have hs := rsqrt_apply blk x hb s
  unfold k0_pay16 k0_pay13
  generalize k0_pay12 blk = z at hs ⊢
  pointwise
  rw [hs, log2e_val, EReal.coe_mul]

/-- The exponentials, when the biases are proper: those of the logits less a real number depending on the column alone. -/
theorem expo_apply (hb : ∀ c s, blk (ix3 0 c s) = ((x s c : ℝ) : EReal))
    (hw : ∀ k j, wa (ix2 k j) = waug w b k j) (hp : Proper b) (s : Fin 2048) :
    ∃ a : ℝ, ∀ k, expo wa blk (ix2 k s) = ((wt (logit w b (x s) k - (a : EReal)) : ℝ) : EReal) := by
  obtain ⟨M, hM⟩ := ((proper_scaled w b (x s) _ (nrm_pos (x s))).mpr hp).sup
  refine ⟨M / nrm (x s), fun k => ?_⟩
  have h : expo wa blk (ix2 k s) = Ideal.exp2 (k0_pay15 wa k0_pay3 blk (ix2 k s) * k0_pay16 blk (ix2 k s)) := rfl
  rw [h, score_apply blk x wa w b hb hw, hM, scale_apply blk x hb, EReal.coe_mul, ← mul_assoc, exp2_scale,
    unscale w b (x s) _ (nrm_pos (x s))]
  exact exp_eq_wt _ ((((proper_logit w b (x s)).mpr hp).sub _).1 k)

/-- The exponentials, when the biases are improper: zeros. -/
theorem expo_improper (hb : ∀ c s, blk (ix3 0 c s) = ((x s c : ℝ) : EReal))
    (hw : ∀ k j, wa (ix2 k j) = waug w b k j) (hp : ¬ Proper b) (k : Fin 64) (s : Fin 2048) :
    expo wa blk (ix2 k s) = (0 : EReal) := by
  have hn := sub_sup_of_improper (mt (proper_scaled w b (x s) _ (nrm_pos (x s))).mp hp) k
  have h2 : (0 : ℝ) < (nrm (x s))⁻¹ * (Real.log 2)⁻¹ :=
    mul_pos (inv_pos.mpr (nrm_pos _)) (inv_pos.mpr (Real.log_pos (by norm_num)))
  have h : expo wa blk (ix2 k s) = Ideal.exp2 (k0_pay15 wa k0_pay3 blk (ix2 k s) * k0_pay16 blk (ix2 k s)) := rfl
  rw [h, score_apply blk x wa w b hb hw, hn, scale_apply blk x hb, EReal.bot_mul_coe_of_pos h2]
  rfl

/-- An assignment from the exponentials: the exponential times the inverse of the column's sum, over the norm. -/
theorem assign_read (hb : ∀ c s, blk (ix3 0 c s) = ((x s c : ℝ) : EReal)) (e : Fin 64 → ℝ) (s : Fin 2048)
    (he : ∀ k, expo wa blk (ix2 k s) = ((e k : ℝ) : EReal)) (k : Fin 64) :
    assign wa blk (ix2 k s) = ((e k : ℝ) : EReal) * (Ideal.div 1 ((∑ k, e k : ℝ) : EReal) * (((nrm (x s))⁻¹ : ℝ) : EReal)) := by
  have hs := rsqrt_apply blk x hb s
  have hd : denom wa blk (ix2 0 s) = ((∑ k, e k : ℝ) : EReal) := by
    unfold denom
    generalize expo wa blk = z at he ⊢
    pointwise
    rw [coe_sum]
    exact Finset.sum_congr rfl fun k _ => he k
  unfold assign k0_pay13
  generalize expo wa blk = y at he ⊢
  generalize denom wa blk = d at hd ⊢
  generalize k0_pay12 blk = z at hs ⊢
  pointwise
  rw [he, hd, hs]

/-- Each assignment is the position's share divided by its norm. -/
theorem assign_apply (hb : ∀ c s, blk (ix3 0 c s) = ((x s c : ℝ) : EReal))
    (hw : ∀ k j, wa (ix2 k j) = waug w b k j) (k : Fin 64) (s : Fin 2048) :
    assign wa blk (ix2 k s) = ((soft w b (x s) k * (nrm (x s))⁻¹ : ℝ) : EReal) := by
  by_cases hp : Proper b
  · obtain ⟨a, ha⟩ := expo_apply blk x wa w b hb hw hp s
    have hd : ∑ k, wt (logit w b (x s) k - (a : EReal)) ≠ 0 := (((proper_logit w b (x s)).mpr hp).sub a).sum_pos.ne'
    rw [assign_read blk x wa hb _ s ha, Ideal.div_coe hd, one_mul, ← EReal.coe_mul, ← EReal.coe_mul, ← soft_shift w b (x s) hp a]
    congr 1
    rw [one_div, div_eq_mul_inv, mul_assoc]
  · rw [assign_read blk x wa hb (fun _ => 0) s (fun k => expo_improper blk x wa w b hb hw hp k s), EReal.coe_zero, zero_mul, soft,
      if_neg hp, zero_mul, EReal.coe_zero]

/-- What one position adds to entry `(k, j)` of the accumulator. -/
def term (v : Fin 128 → ℝ) (k : Fin 64) (j : Fin 136) : ℝ := soft w b v k * (nrm v)⁻¹ * aug v j

/-- One chunk's update at an entry. -/
theorem step_apply (acc : FVec Ideal S64x136 .f32) (hb : ∀ c s, blk (ix3 0 c s) = ((x s c : ℝ) : EReal))
    (hw : ∀ k j, wa (ix2 k j) = waug w b k j) (k : Fin 64) (j : Fin 136) :
    step wa acc blk (ix2 k j) = acc (ix2 k j) + ((∑ s, term w b (x s) k j : ℝ) : EReal) := by
  have h1 := assign_apply blk x wa w b hb hw
  have h2 := aug_apply blk x hb
  unfold step
  generalize assign wa blk = q at h1 ⊢
  generalize k0_pay14 k0_pay3 blk = z at h2 ⊢
  pointwise
  rw [coe_sum]
  refine congrArg (_ + ·) (Finset.sum_congr rfl fun s _ => ?_)
  rw [h1, h2, ← EReal.coe_mul]
  rfl

end

/-- In the first 128 columns a position adds its share of its normalised descriptor. -/
theorem term_lo (w : Fin 64 → Fin 128 → ℝ) (b : Fin 64 → EReal) (v : Fin 128 → ℝ) (k : Fin 64) (c : Fin 128) :
    term w b v k ⟨c.val, by omega⟩ = soft w b v k * unit v c := by
  unfold term aug
  rw [dif_pos c.isLt, unit, mul_assoc, mul_comm (nrm v)⁻¹, div_eq_mul_inv]

/-- In column 128 it adds its share. -/
theorem term_hi (w : Fin 64 → Fin 128 → ℝ) (b : Fin 64 → EReal) (v : Fin 128 → ℝ) (k : Fin 64) :
    term w b v k ⟨128, by omega⟩ = soft w b v k := by
  unfold term aug
  rw [dif_neg (by simp), if_pos rfl, inv_mul_cancel_right₀ (nrm_ne v)]

/-- The accumulator after an element's eight chunks. -/
theorem chain_apply (wa : FVec Ideal S64x136 .f32) (w : Fin 64 → Fin 128 → ℝ) (b : Fin 64 → EReal)
    (blks : Fin 8 → Vec Ideal S1x128x2048 .f32) (x : Fin 8 → Fin 2048 → Fin 128 → ℝ)
    (hb : ∀ i c s, blks i (ix3 0 c s) = ((x i s c : ℝ) : EReal))
    (hw : ∀ k j, wa (ix2 k j) = waug w b k j) (k : Fin 64) (j : Fin 136) :
    chain wa blks (ix2 k j) = ((∑ i, ∑ s, term w b (x i s) k j : ℝ) : EReal) := by
  unfold chain
  have h0 : (k0_pay31 (F := Ideal)) (ix2 k j) = 0 := by
    unfold k0_pay31
    pointwise
  simp only [step_apply _ _ wa w b _ (hb _) hw, h0, zero_add, Fin.sum_univ_eight, EReal.coe_add]

end Cert.NetVlad

end
-- ==== Proof.Model.lean ====
/- The result both programs compute, as a function of an element's positions, the weights, the bias and the centroids:
   the aggregate about the centroids, each row divided by its clamped norm, then the whole by its clamped norm. -/
module

public import proofs.«01_k».proof.Proof.Softmax

@[expose] public section

noncomputable section

namespace Cert.NetVlad

open Idealize.ShloMosaic
open scoped BigOperators

/-- The aggregate of an element's positions about the centroids. The centroids may hold infinities, the two sums are real. -/
def agg (w : Fin 64 → Fin 128 → ℝ) (b : Fin 64 → EReal) (x : Fin 16384 → Fin 128 → ℝ) (cent : Fin 64 → Fin 128 → EReal)
    (k : Fin 64) (c : Fin 128) : EReal :=
  ((∑ s, soft w b (x s) k * unit (x s) c : ℝ) : EReal) - ((∑ s, soft w b (x s) k : ℝ) : EReal) * cent k c

/-- Each row times the inverse root of its clamped sum of squares. -/
def rowNorm (v : Fin 64 → Fin 128 → EReal) (k : Fin 64) (c : Fin 128) : EReal :=
  v k c * Ideal.rsqrt (max (∑ c', v k c' * v k c') ((eps * eps : ℝ) : EReal))

/-- The whole matrix times the inverse root of its clamped sum of squares. -/
def allNorm (v : Fin 64 → Fin 128 → EReal) (k : Fin 64) (c : Fin 128) : EReal :=
  v k c * Ideal.rsqrt (max (∑ k', ∑ c', v k' c' * v k' c') ((eps * eps : ℝ) : EReal))

/-- An element's result. -/
def vlad (w : Fin 64 → Fin 128 → ℝ) (b : Fin 64 → EReal) (x : Fin 16384 → Fin 128 → ℝ) (cent : Fin 64 → Fin 128 → EReal) :
    Fin 64 → Fin 128 → EReal :=
  allNorm (rowNorm (agg w b x cent))

/-- The row normalisation, spelt with a division by the clamped root. -/
theorem rowNorm_div (v : Fin 64 → Fin 128 → EReal) (k : Fin 64) (c : Fin 128) :
    Ideal.div (v k c) (max (Ideal.sqrt (∑ c', v k c' * v k c')) (eps : EReal)) = rowNorm v k c :=
  div_clamp _ _ (Finset.sum_nonneg fun _ _ => mul_self_nonneg' _)

/-- The normalisation of the whole, spelt with a division by the clamped root. -/
theorem allNorm_div (v : Fin 64 → Fin 128 → EReal) (k : Fin 64) (c : Fin 128) :
    Ideal.div (v k c) (max (Ideal.sqrt (∑ k', ∑ c', v k' c' * v k' c')) (eps : EReal)) = allNorm v k c :=
  div_clamp _ _ (Finset.sum_nonneg fun _ _ => Finset.sum_nonneg fun _ _ => mul_self_nonneg' _)

/-- Zero or an infinity. -/
def Extreme (a : EReal) : Prop := a = 0 ∨ a = ⊤ ∨ a = ⊥

/-- −∞ is. -/
theorem Extreme.bot : Extreme ⊥ := .inr (.inr rfl)

/-- Anything times zero or an infinity is zero or an infinity. -/
theorem Extreme.mul {a : EReal} (h : Extreme a) (y : EReal) : Extreme (a * y) := by
  rcases h with rfl | rfl | rfl
  · exact .inl (zero_mul y)
  · rcases lt_trichotomy y 0 with hy | rfl | hy
    · exact .inr (.inr (EReal.top_mul_of_neg hy))
    · exact .inl (mul_zero _)
    · exact .inr (.inl (EReal.top_mul_of_pos hy))
  · rcases lt_trichotomy y 0 with hy | rfl | hy
    · exact .inr (.inl (EReal.bot_mul_of_neg hy))
    · exact .inl (mul_zero _)
    · exact .inr (.inr (EReal.bot_mul_of_pos hy))

/-- Zeros and infinities add to zero or an infinity. -/
theorem Extreme.add {a a' : EReal} (h : Extreme a) (h' : Extreme a') : Extreme (a + a') := by
  rcases h with rfl | rfl | rfl <;> rcases h' with rfl | rfl | rfl <;> simp [Extreme]

/-- They subtract to zero or an infinity. -/
theorem Extreme.sub {a a' : EReal} (h : Extreme a) (h' : Extreme a') : Extreme (a - a') := by
  rcases h with rfl | rfl | rfl <;> rcases h' with rfl | rfl | rfl <;> simp [Extreme]

/-- They sum to zero or an infinity. -/
theorem Extreme.sum {ι : Type*} {s : Finset ι} {f : ι → EReal} (h : ∀ i, Extreme (f i)) : Extreme (∑ i ∈ s, f i) := by
  classical
  induction s using Finset.induction_on with
  | empty => exact .inl rfl
  | insert a s ha ih => rw [Finset.sum_insert ha]; exact (h a).add ih

/-- A matrix of zeros and infinities has zero rows once they are normalised: an infinity makes its row's inverse root zero. -/
theorem rowNorm_extreme (v : Fin 64 → Fin 128 → EReal) (h : ∀ k c, Extreme (v k c)) (k : Fin 64) (c : Fin 128) :
    rowNorm v k c = 0 := by
  unfold rowNorm
  by_cases h0 : v k c = 0
  · rw [h0, zero_mul]
  · have hsq : v k c * v k c = ⊤ := by
      rcases h k c with e | e | e
      · exact absurd e h0
      · rw [e, EReal.top_mul_top]
      · rw [e, EReal.bot_mul_bot]
    have hs : ∑ c', v k c' * v k c' = ⊤ :=
      top_le_iff.mp (hsq ▸ Finset.single_le_sum (f := fun c' => v k c' * v k c') (fun c' _ => mul_self_nonneg' _) (Finset.mem_univ c))
    rw [hs, max_eq_left le_top, Ideal.rsqrt_top, mul_zero]

/-- Two matrices of zeros and infinities have the same normalisation. -/
theorem allNorm_extreme (v : Fin 64 → Fin 128 → EReal) (h : ∀ k c, Extreme (v k c)) (v' : Fin 64 → Fin 128 → EReal)
    (h' : ∀ k c, Extreme (v' k c)) (k : Fin 64) (c : Fin 128) : allNorm (rowNorm v) k c = allNorm (rowNorm v') k c := by
  rw [funext fun k => funext fun c => (rowNorm_extreme v h k c).trans (rowNorm_extreme v' h' k c).symm]

/-- The aggregate is zero or an infinity (it is zero) when the biases are improper. -/
theorem agg_improper (w : Fin 64 → Fin 128 → ℝ) (b : Fin 64 → EReal) (x : Fin 16384 → Fin 128 → ℝ) (cent : Fin 64 → Fin 128 → EReal)
    (hp : ¬ Proper b) (k : Fin 64) (c : Fin 128) : Extreme (agg w b x cent k c) := by
  left
  simp [agg, soft, hp]

/-- The positions of an element by chunk and place in the chunk: position `2048 i + s`. -/
def pos (i : Fin 8) (s : Fin 2048) : Fin 16384 := ⟨2048 * i.val + s.val, by have := i.isLt; have := s.isLt; omega⟩

/-- A sum over the positions, chunk by chunk. -/
theorem sum_pos_chunks (f : Fin 16384 → ℝ) : ∑ i, ∑ s, f (pos i s) = ∑ t, f t := by
  have h : ∑ t : Fin (8 * 2048), f t = ∑ p : Fin 8 × Fin 2048, f (finProdFinEquiv p) := (Equiv.sum_comp finProdFinEquiv _).symm
  refine Eq.trans ?_ h.symm
  rw [Fintype.sum_prod_type]
  refine Finset.sum_congr rfl fun i _ => Finset.sum_congr rfl fun s _ => congrArg f (Fin.ext ?_)
  show 2048 * i.val + s.val = s.val + 2048 * i.val
  omega

/-- The cluster an entry of a row of 8192 results belongs to. -/
def row (j : Fin 8192) : Fin 64 := ⟨j.val / 128, by have := j.isLt; omega⟩

/-- The coordinate an entry of a row of 8192 results is. -/
def col (j : Fin 8192) : Fin 128 := ⟨j.val % 128, by omega⟩

/-- A sum over a row of results, cluster by cluster. -/
theorem sum_row_col (f : Fin 64 → Fin 128 → EReal) : ∑ j, f (row j) (col j) = ∑ k, ∑ d, f k d := by
  have h : ∑ p : Fin 64 × Fin 128, f (row (finProdFinEquiv p)) (col (finProdFinEquiv p)) = ∑ j, f (row j) (col j) :=
    Equiv.sum_comp finProdFinEquiv fun j : Fin (64 * 128) => f (row j) (col j)
  rw [← h, Fintype.sum_prod_type]
  refine Finset.sum_congr rfl fun k _ => Finset.sum_congr rfl fun d _ => ?_
  have hd := d.isLt
  rw [show row (finProdFinEquiv (k, d)) = k from Fin.ext (by show (d.val + 128 * k.val) / 128 = k.val; omega),
    show col (finProdFinEquiv (k, d)) = d from Fin.ext (by show (d.val + 128 * k.val) % 128 = d.val; omega)]

/-- The results of all elements laid out in rows of 8192. -/
def flat (w : Fin 64 → Fin 128 → ℝ) (b : Fin 64 → EReal) (X : Fin 16 → Fin 16384 → Fin 128 → ℝ)
    (cent : Fin 64 → Fin 128 → EReal) (n : Fin 16) (j : Fin 8192) : EReal :=
  vlad w b (X n) cent (row j) (col j)

end Cert.NetVlad

end
-- ==== Proof.Finish.lean ====
/- The block a grid point writes, read at an index: for each of its two elements, the result of the model at the element's
   positions, weights, bias and centroids. -/
module

public import proofs.«01_k».proof.Proof.StepValue
public import proofs.«01_k».proof.Proof.Model
public import Idealize.ShloMosaic.Lib.Pipeline.Value

@[expose] public section

noncomputable section

namespace Cert.NetVlad

open Idealize.ShloMosaic Cert.KernelIdeal Cert.KernelIdeal.Gen
open scoped BigOperators

/-- The finished element from an accumulator whose centred values are `v`. -/
theorem finish_apply (cent : Vec Ideal S64x128 .f32) (acc : FVec Ideal S64x136 .f32) (v : Fin 64 → Fin 128 → EReal)
    (hv : ∀ k c, centred cent acc (ix2 k c) = v k c) (k : Fin 64) (c : Fin 128) :
    finish cent acc (ix3 0 k c) = allNorm (rowNorm v) k c := by
  unfold finish
  have hr : ∀ k, rowSq (centred cent acc) (ix2 k 0) = ∑ c, v k c * v k c := fun k => by
    generalize centred cent acc = z at hv ⊢
    unfold rowSq
    pointwise
    simp only [hv]
  generalize rowSq (centred cent acc) = y at hr ⊢
  generalize centred cent acc = z at hv ⊢
  unfold k0_pay1
  pointwise
  simp only [eps2_val, hv, hr]
  rfl

/-- The centred values of an accumulator. -/
theorem centred_apply (cent : Vec Ideal S64x128 .f32) (acc : FVec Ideal S64x136 .f32) (k : Fin 64) (c : Fin 128) :
    centred cent acc (ix2 k c)
      = acc (ix2 k ⟨c.val, by omega⟩) - acc (ix2 k ⟨128, by omega⟩) * cent (ix2 k c) := by
  unfold centred
  pointwise

/-- One element of the block, from real chunks and weights, and any biases. -/
theorem element_apply (wa : FVec Ideal S64x136 .f32) (cent : Vec Ideal S64x128 .f32) (w : Fin 64 → Fin 128 → ℝ) (b : Fin 64 → EReal)
    (blks : Fin 8 → Vec Ideal S1x128x2048 .f32) (x : Fin 16384 → Fin 128 → ℝ)
    (hb : ∀ i c s, blks i (ix3 0 c s) = ((x (pos i s) c : ℝ) : EReal))
    (hw : ∀ k j, wa (ix2 k j) = waug w b k j) (k : Fin 64) (c : Fin 128) :
    finish cent (chain wa blks) (ix3 0 k c) = vlad w b x (fun k c => cent (ix2 k c)) k c := by
  refine finish_apply cent _ _ (fun k c => ?_) k c
  rw [centred_apply, chain_apply wa w b blks (fun i s => x (pos i s)) hb hw, chain_apply wa w b blks (fun i s => x (pos i s)) hb hw]
  simp only [term_lo, term_hi]
  rw [sum_pos_chunks (fun t => soft w b (x t) k * unit (x t) c), sum_pos_chunks (fun t => soft w b (x t) k)]
  rfl

/-- Chunk `i` of the block's first element: its columns are positions `2048 * i` onwards. -/
theorem blocksA_apply (x0 : Vec Ideal S2x128x16384 .f32) (i : Fin 8) (c : Fin 128) (s : Fin 2048) :
    blocksA x0 i (ix3 0 c s) = x0 (ix3 0 c (pos i s)) := by
  fin_cases i <;> simp only [blocksA] <;> pointwise <;>
    exact congrArg (fun t => x0 (ix3 0 c t)) (Fin.ext (by simp [pos]))

/-- Chunk `i` of the block's second element. -/
theorem blocksB_apply (x0 : Vec Ideal S2x128x16384 .f32) (i : Fin 8) (c : Fin 128) (s : Fin 2048) :
    blocksB x0 i (ix3 0 c s) = x0 (ix3 1 c (pos i s)) := by
  fin_cases i <;> simp only [blocksB] <;> pointwise <;>
    exact congrArg (fun t => x0 (ix3 1 c t)) (Fin.ext (by simp [pos]))

/-- The weights as the body takes them: the whole operand. -/
theorem weights_apply (x1 : Vec Ideal S64x136 .f32) (k : Fin 64) (j : Fin 136) :
    k0_pay2 (View.ld x1 r0_0) (ix2 k j) = x1 (ix2 k j) := by
  unfold k0_pay2
  pointwise

/-- The centroids as the body takes them: the whole operand. -/
theorem centroids_apply (x2 : Vec Ideal S64x128 .f32) (k : Fin 64) (c : Fin 128) :
    View.ld x2 r0_1 (ix2 k c) = x2 (ix2 k c) := by
  pointwise

/-- The block a grid point writes: at element `n`, the result of the model at that element's positions. -/
theorem out_apply (x0 : Vec Ideal S2x128x16384 .f32) (x1 : Vec Ideal S64x136 .f32) (x2 : Vec Ideal S64x128 .f32)
    (w : Fin 64 → Fin 128 → ℝ) (b : Fin 64 → EReal) (x : Fin 2 → Fin 16384 → Fin 128 → ℝ)
    (hx : ∀ n c t, x0 (ix3 n c t) = ((x n t c : ℝ) : EReal)) (hw : ∀ k j, x1 (ix2 k j) = waug w b k j)
    (y : S2x64x128.Idx) :
    out0_3 x0 x1 x2 y = vlad w b (x (y 0)) (fun k c => x2 (ix2 k c)) (y 1) (y 2) := by
  have hc : (fun (k : Fin 64) (c : Fin 128) => (View.ld x2 r0_1 (ix2 k c) : EReal)) = fun k c => x2 (ix2 k c) :=
    funext fun k => funext fun c => centroids_apply x2 k c
  have hA : ∀ k c, finish (View.ld x2 r0_1) (chain (k0_pay2 (View.ld x1 r0_0)) (blocksA x0)) (ix3 0 k c)
      = vlad w b (x 0) (fun k c => x2 (ix2 k c)) k c := fun k c => by
    rw [element_apply _ _ w b _ (x 0) (fun i c s => by rw [blocksA_apply, hx]) (fun k j => by rw [weights_apply, hw])]
    exact congrArg (fun z => vlad w b (x 0) z k c) hc
  have hB : ∀ k c, finish (View.ld x2 r0_1) (chain (k0_pay2 (View.ld x1 r0_0)) (blocksB x0)) (ix3 0 k c)
      = vlad w b (x 1) (fun k c => x2 (ix2 k c)) k c := fun k c => by
    rw [element_apply _ _ w b _ (x 1) (fun i c s => by rw [blocksB_apply, hx]) (fun k j => by rw [weights_apply, hw])]
    exact congrArg (fun z => vlad w b (x 1) z k c) hc
  rw [out_eq]
  refine View.canon_apply_of_pieces (Val := Elt Ideal) (e := .f32)
    (fun y : S2x64x128.Idx => vlad w b (x (y 0)) (fun k c => x2 (ix2 k c)) (y 1) (y 2)) _ ?_ y (cover0_3 _ _ y)
  generalize finish (View.ld x2 r0_1) (chain (k0_pay2 (View.ld x1 r0_0)) (blocksA x0)) = fA at hA ⊢
  generalize finish (View.ld x2 r0_1) (chain (k0_pay2 (View.ld x1 r0_0)) (blocksB x0)) = fB at hB ⊢
  intro p hp z
  rcases List.mem_cons.mp hp with rfl | hp
  · have h0 : r0_19.emb z 0 = (1 : Fin 2) := Fin.ext (by have : (z 0 : Nat) < 1 := (z 0).isLt; simp; omega)
    have h1 : r0_19.emb z 1 = (z 1 : Fin 64) := Fin.ext (by simp)
    have h2 : r0_19.emb z 2 = (z 2 : Fin 128) := Fin.ext (by simp)
    have hz : z = ix3 (0 : Fin 1) (z 1) (z 2) := by
      funext a; fin_cases a
      · exact Subsingleton.elim (α := Fin 1) _ _
      · rfl
      · rfl
    show fB z = vlad w b (x (r0_19.emb z 0)) _ (r0_19.emb z 1) (r0_19.emb z 2)
    rw [h0, h1, h2]
    exact (congrArg fB hz).trans (hB _ _)
  · rw [List.mem_singleton] at hp
    subst hp
    have h0 : r0_10.emb z 0 = (0 : Fin 2) := Fin.ext (by have : (z 0 : Nat) < 1 := (z 0).isLt; simp; omega)
    have h1 : r0_10.emb z 1 = (z 1 : Fin 64) := Fin.ext (by simp)
    have h2 : r0_10.emb z 2 = (z 2 : Fin 128) := Fin.ext (by simp)
    have hz : z = ix3 (0 : Fin 1) (z 1) (z 2) := by
      funext a; fin_cases a
      · exact Subsingleton.elim (α := Fin 1) _ _
      · rfl
      · rfl
    show fA z = vlad w b (x (r0_10.emb z 0)) _ (r0_10.emb z 1) (r0_10.emb z 2)
    rw [h0, h1, h2]
    exact (congrArg fA hz).trans (hA _ _)

end Cert.NetVlad

end
-- ==== Proof.KernelValue.lean ====
/- What the kernel's program leaves: the array its region writes, and the result reshaped from it. -/
module

public import proofs.«01_k».proof.Proof.Finish
public import Idealize.ShloMosaic.Lib.Pipeline.ValueKit.Point

@[expose] public section

noncomputable section

namespace Cert.NetVlad

open Idealize.ShloMosaic Idealize.ShloMosaic.TcCoe Idealize.SL.Sem Cert.KernelIdeal Cert.KernelIdeal.Gen
open scoped BigOperators

variable (m : (ℓ : Loc nD τ sig) → Buf (Elt Ideal) ℓ) (c : Dev nD)

/-- Point `t` reads the two batch elements from `2 * t`. -/
theorem index_x : ∀ t : Fin cfg0.N, win0_0.index t = ![t.val, 0, 0] := by
  decide +kernel
/-- Every point reads the whole of the weights. -/
theorem index_w : ∀ t : Fin cfg0.N, win0_1.index t = ![0, 0] := by
  decide +kernel
/-- Every point reads the whole of the centroids. -/
theorem index_cent : ∀ t : Fin cfg0.N, win0_2.index t = ![0, 0] := by
  decide +kernel
/-- Point `t` writes the block of results `t`. -/
theorem index_out : ∀ t : Fin cfg0.N, win0_3.index t = ![t.val, 0, 0] := by
  decide +kernel

/-- Three column groups side by side. -/
def columns (a : FVec Ideal S64x128 .f32) (b : FVec Ideal S64x1 .f32) (z : FVec Ideal S64x7 .f32) : FVec Ideal S64x136 .f32 :=
  concatenate S64x136 1 [⟨S64x128, a⟩, ⟨S64x1, b⟩, ⟨S64x7, z⟩] Facts₀.concatenates_S64x128_S64x1_S64x7_S64x136_d1

/-- The weights the region finds: the fully connected weights, then the bias, then seven zero columns. -/
theorem weights_entry : V m c main_v2 = columns (m ((c : Thread nD τ).loc main_arg1))
    (broadcastInDim S64x1 ![0] Facts₀.bcast_S64_S64x1_0 (m ((c : Thread nD τ).loc main_arg2)))
    (broadcastInDim S64x7 ![] Facts₀.bcast_S_S64x7 (constant S_ .f32 0x00000000#32)) := by
  show StableHlo.after hostOps0 (fun b => m (c, b)) (Proc.devRef .tc main_v2) = _
  unfold hostOps0
  simp only [StableHlo.after_cons, StableHlo.after_nil]
  rw [StableHlo.nary_result']
  have hc : ∀ {a a' b b' z z'}, a = a' → b = b' → z = z' → columns a b z = columns a' b' z' := by
    rintro _ _ _ _ _ _ rfl rfl rfl; rfl
  refine hc ?_ ?_ ?_
  · simp [Matrix.cons_val_zero]
  · simp only [Matrix.cons_val_one]
    rw [StableHlo.unary_result_ne _ _ _ _ _ _ (by decide)]
    exact (StableHlo.nullary_result_ne _ _ _ _ (by decide)).trans (StableHlo.unary_result' _ _ _ _)
  · exact (StableHlo.unary_result' (x := main_cst) (y := main_v1) _ _ _ _).trans (congrArg _ (StableHlo.nullary_result' _ _ _))

/-- The same at an index, from real weights and any biases. -/
theorem weights_entry_apply (w : Fin 64 → Fin 128 → ℝ) (b : Fin 64 → EReal)
    (hw : ∀ k j, m ((c : Thread nD τ).loc main_arg1) (ix2 k j) = ((w k j : ℝ) : EReal))
    (hb : ∀ k, m ((c : Thread nD τ).loc main_arg2) (ix1 k) = b k) (k : Fin 64) (j : Fin 136) :
    V m c main_v2 (ix2 k j) = waug w b k j := by
  rw [weights_entry]
  generalize m ((c : Thread nD τ).loc main_arg1) = y at hw ⊢
  generalize m ((c : Thread nD τ).loc main_arg2) = z at hb ⊢
  unfold columns
  pointwise
  unfold waug
  by_cases h1 : j.val < 128
  · rw [dif_pos h1, dif_pos h1, hw]
  · rw [dif_neg h1, dif_neg h1]
    by_cases h2 : j.val = 128
    · rw [dif_pos (by omega), if_pos h2, hb]
    · rw [dif_neg (by omega), if_neg h2]

/-- The array of results: one model result per batch element. -/
def results (w : Fin 64 → Fin 128 → ℝ) (b : Fin 64 → EReal) (X : Fin 16 → Fin 16384 → Fin 128 → ℝ)
    (cent : Fin 64 → Fin 128 → EReal) : FVec Ideal S16x64x128 .f32 :=
  fun i => vlad w b (X (i 0)) cent (i 1) (i 2)

/-- The array the region leaves: every batch element's result. -/
theorem region_array (w : Fin 64 → Fin 128 → ℝ) (b : Fin 64 → EReal) (X : Fin 16 → Fin 16384 → Fin 128 → ℝ)
    (hx : ∀ n d t, m ((c : Thread nD τ).loc main_arg0) (ix3 n d t) = ((X n t d : ℝ) : EReal))
    (hw : ∀ k j, m ((c : Thread nD τ).loc main_arg1) (ix2 k j) = ((w k j : ℝ) : EReal))
    (hb : ∀ k, m ((c : Thread nD τ).loc main_arg2) (ix1 k) = b k) :
    (dats m 0 c).arrAt 3 cfg0.N
      = results w b X (fun k d => m ((c : Thread nD τ).loc main_arg3) (ix2 k d)) := by
  refine (dats m 0 c).arrAt_eq_of_covers 3 _ (by decide +kernel) fun t _ y => ?_
  have ht : t.val < 8 := t.isLt
  have hx' : ∀ (n : Fin 2) (d : Fin 128) (s : Fin 16384), (iblk m c 0 t : Vec Ideal S2x128x16384 .f32) (ix3 n d s)
      = ((X ⟨t.val * 2 + n.val, by omega⟩ s d : ℝ) : EReal) := fun n d s => by
    rw [← hx]
    blk_simp [iblk]
    rw [V_main_arg0]
    blk_ext [index_x]
  have hw' : ∀ k j, (iblk m c 1 t : Vec Ideal S64x136 .f32) (ix2 k j) = waug w b k j := fun k j => by
    rw [← weights_entry_apply m c w b hw hb]
    blk_simp [iblk]
    blk_ext [index_w]
  have hc' : (fun (k : Fin 64) (d : Fin 128) => ((iblk m c 2 t : Vec Ideal S64x128 .f32) (ix2 k d) : EReal))
      = fun k d => m ((c : Thread nD τ).loc main_arg3) (ix2 k d) := funext fun k => funext fun d => by
    blk_simp [iblk]
    rw [V_main_arg3]
    blk_ext [index_cent]
  blk_simp
  rw [after0_3]
  have e0 : (win0_3.blk t).view.emb y 0 = (⟨t.val * 2 + (y 0).val, by have : (y 0).val < 2 := (y 0).isLt; omega⟩ : Fin 16) :=
    Fin.ext (by blk_simp [index_out])
  have e1 : (win0_3.blk t).view.emb y 1 = (y 1 : Fin 64) := Fin.ext (by blk_simp [index_out])
  have e2 : (win0_3.blk t).view.emb y 2 = (y 2 : Fin 128) := Fin.ext (by blk_simp [index_out])
  refine (out_apply (iblk m c 0 t) (iblk m c 1 t) (iblk m c 2 t) w b _ hx' hw' y).trans ?_
  rw [hc']
  show _ = vlad w b (X ((win0_3.blk t).view.emb y 0)) _ ((win0_3.blk t).view.emb y 1) ((win0_3.blk t).view.emb y 2)
  rw [e0, e1, e2]

/-- Reshaping the array of results lays it out in rows. -/
theorem reshape_results (w : Fin 64 → Fin 128 → ℝ) (b : Fin 64 → EReal) (X : Fin 16 → Fin 16384 → Fin 128 → ℝ)
    (cent : Fin 64 → Fin 128 → EReal) :
    shapeCast S16x8192 (results w b X cent) Facts₀.shapeCasts_S16x64x128_S16x8192
      = fun i : S16x8192.Idx => flat w b X cent (i 0) (i 1) := by
  funext i
  have hi : i = ix2 (i 0 : Fin 16) (i 1 : Fin 8192) := by funext a; fin_cases a <;> rfl
  rw [hi]
  pointwise
  rfl

/-- The result buffer after the reshape that follows the region. -/
theorem result_buffer : Pipeline.afterTail₀ cfgs (dats m) 0 (V0 m) [hostOps1] c main_v4
    = shapeCast S16x8192 ((dats m 0 c).arrAt 3 cfg0.N : FVec Ideal S16x64x128 .f32) Facts₀.shapeCasts_S16x64x128_S16x8192 := by
  unfold Pipeline.afterTail₀
  show StableHlo.after hostOps1 _ (Proc.devRef .tc main_v4) = _
  unfold hostOps1
  simp only [StableHlo.after_cons, StableHlo.after_nil]
  rw [StableHlo.reshape_result']
  refine congrArg (fun z : FVec Ideal S16x64x128 .f32 => shapeCast S16x8192 z Facts₀.shapeCasts_S16x64x128_S16x8192) ?_
  exact Pipeline.withArrays_arr spec0 (by decide) c (V0 m c) (fun w => (dats m 0 c).arrAt w cfg0.N) 3

variable (ρ : Dev nD → PrngReg)

/-- The kernel's run: on every device the result buffer ends holding the results in rows. -/
theorem kernel_run (w : Dev nD → Fin 64 → Fin 128 → ℝ) (b : Dev nD → Fin 64 → EReal) (X : Dev nD → Fin 16 → Fin 16384 → Fin 128 → ℝ)
    (hx : ∀ (c : Dev nD) n d t, m ((c : Thread nD τ).loc main_arg0) (ix3 n d t) = ((X c n t d : ℝ) : EReal))
    (hw : ∀ (c : Dev nD) k j, m ((c : Thread nD τ).loc main_arg1) (ix2 k j) = ((w c k j : ℝ) : EReal))
    (hb : ∀ (c : Dev nD) k, m ((c : Thread nD τ).loc main_arg2) (ix1 k) = b c k) :
    θ_run defs (onTc (τ := τ) (main (F := Ideal))) ⟨m, fun _ => 0, ρ⟩ fun r => ∀ c : Dev nD,
      r.2.mem ((c : Thread nD τ).loc main_v4)
          = (fun i : S16x8192.Idx => flat (w c) (b c) (X c) (fun k d => m ((c : Thread nD τ).loc main_arg3) (ix2 k d)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (θ_run_and (run_main m ρ) (unchanged m ρ))
  refine ⟨((h.1 c).2 main_v4 (Pipeline.mem_restRefs_of main_v4 (by decide) (by decide))).trans ?_, h.2 c⟩
  rw [result_buffer, region_array m c (w c) (b c) (X c) (hx c) (hw c) (hb c), reshape_results]

end Cert.NetVlad

end
-- ==== Proof.RefValue.lean ====
/- What the reference computes, operation by operation, read at an index. -/
module

public import proofs.«01_k».proof.Proof.Model
public import proofs.«01_k».proof.Proof.Gen.ReferenceIdeal.Read
public import Idealize.ShloMosaic.Lib.Pointwise

@[expose] public section

noncomputable section

namespace Cert.NetVlad

open Idealize.ShloMosaic Cert.ReferenceIdeal Cert.ReferenceIdeal.Gen Cert.ReferenceIdeal.Read
open scoped BigOperators

variable (x0 : FVec Ideal S16x128x16384 .f32) (x1 : FVec Ideal S64x128 .f32) (x2 : FVec Ideal S64 .f32)
  (x3 : FVec Ideal S64x128 .f32)
variable (w : Fin 64 → Fin 128 → ℝ) (b : Fin 64 → EReal) (X : Fin 16 → Fin 16384 → Fin 128 → ℝ)

/-- A left fold of the larger is at most a bound exactly when its start and its entries are. -/
theorem foldl_max_le {ι : Type*} (f : ι → EReal) (l : List ι) (a c : EReal) :
    l.foldl (fun r i => max r (f i)) a ≤ c ↔ a ≤ c ∧ ∀ i ∈ l, f i ≤ c := by
  induction l generalizing a with
  | nil => simp
  | cons i l ih =>
    rw [List.foldl_cons, ih, max_le_iff, List.forall_mem_cons, and_assoc]

/-- The host's maximum along axes, started from −∞, is at most a bound exactly when every entry it runs over is. -/
theorem reduce_max_le {s t u : Shape} {axes : List (Fin s.rank)} (x : FVec Ideal s .f32) (init : FVec Ideal u .f32)
    (h : s.ReducesTo axes t) (hu : 0 < u.numel) (j : t.Idx) (hi : init (Shape.Idx.first hu) = (⊥ : EReal)) (c : EReal) :
    @LE.le EReal _ (Host.reduce (FloatOps.maximumf (F := Ideal) (φ := .f32)) x init h hu j) c ↔ ∀ i, h.drop i = j → (x i : EReal) ≤ c := by
  refine (foldl_max_le (fun n => x (s.rowMajor.symm n))
    ((List.finRange s.numel).filter fun n => h.drop (s.rowMajor.symm n) = j) (init (Shape.Idx.first hu)) c).trans ?_
  rw [hi]
  refine ⟨fun hn i hd => ?_, fun hn => ⟨bot_le, fun n hm => ?_⟩⟩
  · have := hn.2 (s.rowMajor i) (List.mem_filter.mpr ⟨List.mem_finRange _, by simpa using hd⟩)
    simpa using this
  · exact hn _ (by simpa using (List.mem_filter.mp hm).2)

/-- The clamped norm of each position. -/
theorem ref_norm (hx : ∀ n d t, x0 (ix3 n d t) = ((X n t d : ℝ) : EReal)) (n : Fin 16) (t : Fin 16384) :
    val_main_v2 (F := Ideal) x0 (ix3 n 0 t) = ((nrm (X n t) : ℝ) : EReal) := by
  unfold val_main_v2 val_main_v0 val_main_v1 val_main_cst val_main_call0_v2 val_main_call0_v1 val_main_call0_cst val_main_call0_v0
  pointwise
  simp only [hx, ← EReal.coe_mul]
  rw [← coe_sum, Ideal.sqrt_coe, if_neg (not_lt.mpr (sq_nonneg_sum _)), ofBits_eps, ← coe_max]
  rfl

/-- Each position divided by its clamped norm. -/
theorem ref_unit (hx : ∀ n d t, x0 (ix3 n d t) = ((X n t d : ℝ) : EReal)) (n : Fin 16) (d : Fin 128) (t : Fin 16384) :
    val_main_v4 (F := Ideal) x0 (ix3 n d t) = ((unit (X n t) d : ℝ) : EReal) := by
  have h := ref_norm x0 X hx
  unfold val_main_v4 val_main_v3
  generalize val_main_v2 (F := Ideal) x0 = z at h ⊢
  pointwise
  rw [hx, h, Ideal.div_coe (nrm_ne _), ← EReal.coe_mul, mul_one_div]
  rfl

/-- The logits. -/
theorem ref_logit (h : ∀ n d t, val_main_v4 (F := Ideal) x0 (ix3 n d t) = ((unit (X n t) d : ℝ) : EReal))
    (hw : ∀ k d, x1 (ix2 k d) = ((w k d : ℝ) : EReal)) (hb : ∀ k, x2 (ix1 k) = b k)
    (n : Fin 16) (k : Fin 64) (t : Fin 16384) :
    val_main_v9 (F := Ideal) x0 x1 x2 (ix3 n k t) = logit w b (X n t) k := by
  unfold val_main_v9 val_main_v8 val_main_v7 val_main_v6 val_main_v5
  generalize val_main_v4 (F := Ideal) x0 = z at h ⊢
  pointwise
  simp only [h, hw, hb, ← EReal.coe_mul]
  rw [← coe_sum]
  rfl

/-- The largest logit of a position. -/
theorem ref_reduce (h : ∀ n k t, val_main_v9 (F := Ideal) x0 x1 x2 (ix3 n k t) = logit w b (X n t) k)
    (n : Fin 16) (t : Fin 16384) : val_main_v10 (F := Ideal) x0 x1 x2 (ix2 n t) = Finset.univ.sup (logit w b (X n t)) := by
  unfold val_main_v10
  generalize val_main_v9 (F := Ideal) x0 x1 x2 = z at h ⊢
  refine eq_of_forall_ge_iff fun c => (reduce_max_le (s := S16x64x16384) (t := S16x16384) z _ _ _ _ ofBits_negInf c).trans ?_
  rw [Finset.sup_le_iff]
  refine ⟨fun hn k _ => ?_, fun hn i hd => ?_⟩
  · rw [← h n k t]
    exact hn _ ((Shape.ReducesTo.fiber_r3_a1 _ _ _).mpr ⟨k, rfl⟩)
  · obtain ⟨k, rfl⟩ := (Shape.ReducesTo.fiber_r3_a1 _ _ _).mp hd
    exact (h n k t).le.trans (hn k (Finset.mem_univ k))

/-- Its maximum with −∞ is the same. -/
theorem ref_max (h : ∀ n k t, val_main_v9 (F := Ideal) x0 x1 x2 (ix3 n k t) = logit w b (X n t) k)
    (n : Fin 16) (t : Fin 16384) : val_main_v12 (F := Ideal) x0 x1 x2 (ix2 n t) = Finset.univ.sup (logit w b (X n t)) := by
  have h11 : val_main_v11 (F := Ideal) (ix2 n t) = (⊥ : EReal) := (val_main_v11_apply _).trans ofBits_negInf
  rw [val_main_v12_apply, ref_reduce x0 x1 x2 w b X h, h11]
  exact max_eq_right bot_le

/-- The exponentials of the logits less the largest. -/
theorem ref_exp (h : ∀ n k t, val_main_v9 (F := Ideal) x0 x1 x2 (ix3 n k t) = logit w b (X n t) k)
    (n : Fin 16) (k : Fin 64) (t : Fin 16384) : val_main_v16 (F := Ideal) x0 x1 x2 (ix3 n k t)
      = Ideal.exp (logit w b (X n t) k - Finset.univ.sup (logit w b (X n t))) := by
  have hM := ref_max x0 x1 x2 w b X h n t
  unfold val_main_v16 val_main_v15 val_main_v14 val_main_v13
  have h := h n k t
  generalize val_main_v9 (F := Ideal) x0 x1 x2 = z at h ⊢
  generalize val_main_v12 (F := Ideal) x0 x1 x2 = y at hM ⊢
  pointwise
  rw [h, hM]

/-- Each exponential over the sum of the position's. -/
theorem ref_quot (n : Fin 16) (t : Fin 16384) (e : Fin 64 → ℝ)
    (he : ∀ k, val_main_v16 (F := Ideal) x0 x1 x2 (ix3 n k t) = ((e k : ℝ) : EReal)) (k : Fin 64) :
    val_main_v20 (F := Ideal) x0 x1 x2 (ix3 n k t) = Ideal.div ((e k : ℝ) : EReal) ((∑ k, e k : ℝ) : EReal) := by
  unfold val_main_v20 val_main_v19 val_main_v18 val_main_v17 val_main_cst_2
  generalize val_main_v16 (F := Ideal) x0 x1 x2 = z at he ⊢
  pointwise
  simp only [he]
  rw [← coe_sum]

/-- The soft assignment, when the biases are proper. -/
theorem ref_soft (h : ∀ n k t, val_main_v9 (F := Ideal) x0 x1 x2 (ix3 n k t) = logit w b (X n t) k)
    (hp : Proper b) (n : Fin 16) (k : Fin 64) (t : Fin 16384) :
    val_main_v20 (F := Ideal) x0 x1 x2 (ix3 n k t) = ((soft w b (X n t) k : ℝ) : EReal) := by
  have hl := (proper_logit w b (X n t)).mpr hp
  obtain ⟨M, hM⟩ := hl.sup
  have he : ∀ k, val_main_v16 (F := Ideal) x0 x1 x2 (ix3 n k t) = ((wt (logit w b (X n t) k - (M : EReal)) : ℝ) : EReal) := fun k => by
    rw [ref_exp x0 x1 x2 w b X h, hM]
    exact exp_eq_wt _ ((hl.sub M).1 k)
  rw [ref_quot x0 x1 x2 n t _ he, Ideal.div_coe (hl.sub M).sum_pos.ne', ← EReal.coe_mul, mul_one_div, soft_shift w b (X n t) hp]

/-- The soft assignment, when the biases are improper: zero over zero. -/
theorem ref_soft_improper (h : ∀ n k t, val_main_v9 (F := Ideal) x0 x1 x2 (ix3 n k t) = logit w b (X n t) k)
    (hp : ¬ Proper b) (n : Fin 16) (k : Fin 64) (t : Fin 16384) :
    val_main_v20 (F := Ideal) x0 x1 x2 (ix3 n k t) = (⊥ : EReal) := by
  rw [ref_quot x0 x1 x2 n t (fun _ => 0) fun k => by
    rw [ref_exp x0 x1 x2 w b X h, sub_sup_of_improper (mt (proper_logit w b (X n t)).mp hp)]; rfl]
  simp [Ideal.div]

/-- The aggregate about the centroids. -/
theorem ref_agg (hu : ∀ n d t, val_main_v4 (F := Ideal) x0 (ix3 n d t) = ((unit (X n t) d : ℝ) : EReal))
    (hs : ∀ n k t, val_main_v20 (F := Ideal) x0 x1 x2 (ix3 n k t) = ((soft w b (X n t) k : ℝ) : EReal))
    (n : Fin 16) (k : Fin 64) (d : Fin 128) :
    val_main_v28 (F := Ideal) x0 x1 x2 x3 (ix3 n k d) = agg w b (X n) (fun k d => x3 (ix2 k d)) k d := by
  unfold val_main_v28 val_main_v27 val_main_v26 val_main_v25 val_main_v24 val_main_v23 val_main_v22 val_main_v21 val_main_cst_3
  generalize val_main_v4 (F := Ideal) x0 = z at hu ⊢
  generalize val_main_v20 (F := Ideal) x0 x1 x2 = y at hs ⊢
  pointwise
  simp only [hu, hs, ← EReal.coe_mul]
  rw [← coe_sum, ← coe_sum]
  rfl

/-- The aggregate from assignments of −∞: zeros and infinities. -/
theorem ref_agg_improper (hs : ∀ n k t, val_main_v20 (F := Ideal) x0 x1 x2 (ix3 n k t) = (⊥ : EReal))
    (n : Fin 16) (k : Fin 64) (d : Fin 128) : Extreme (val_main_v28 (F := Ideal) x0 x1 x2 x3 (ix3 n k d)) := by
  unfold val_main_v28 val_main_v27 val_main_v26 val_main_v25 val_main_v24 val_main_v23 val_main_v22 val_main_v21 val_main_cst_3
  generalize val_main_v4 (F := Ideal) x0 = z
  generalize val_main_v20 (F := Ideal) x0 x1 x2 = y at hs ⊢
  pointwise
  simp only [hs]
  exact (Extreme.sum fun t => Extreme.bot.mul _).sub ((Extreme.sum fun t => Extreme.bot).mul _)

/-- Each row over its clamped norm. -/
theorem ref_rows (v : Fin 64 → Fin 128 → EReal) (n : Fin 16)
    (h : ∀ k d, val_main_v28 (F := Ideal) x0 x1 x2 x3 (ix3 n k d) = v k d) (k : Fin 64) (d : Fin 128) :
    val_main_v33 (F := Ideal) x0 x1 x2 x3 (ix3 n k d) = rowNorm v k d := by
  unfold val_main_v33 val_main_v32 val_main_v31 val_main_v30 val_main_v29 val_main_cst_4 val_main_call1_v2 val_main_call1_v1
    val_main_call1_v0 val_main_call1_cst
  generalize val_main_v28 (F := Ideal) x0 x1 x2 x3 = z at h ⊢
  pointwise
  simp only [h, ofBits_eps]
  exact rowNorm_div v k d

/-- The whole element over its clamped norm. -/
theorem ref_all (v : Fin 64 → Fin 128 → EReal) (n : Fin 16)
    (h : ∀ k d, val_main_v33 (F := Ideal) x0 x1 x2 x3 (ix3 n k d) = v k d) (j : Fin 8192) :
    val_main_v39 (F := Ideal) x0 x1 x2 x3 (ix2 n j) = allNorm v (row j) (col j) := by
  have h34 : ∀ j, val_main_v34 (F := Ideal) x0 x1 x2 x3 (ix2 n j) = v (row j) (col j) := fun j => by
    unfold val_main_v34
    generalize val_main_v33 (F := Ideal) x0 x1 x2 x3 = z at h ⊢
    pointwise
    exact h _ _
  unfold val_main_v39 val_main_v38 val_main_v37 val_main_v36 val_main_v35 val_main_cst_5 val_main_call2_v2 val_main_call2_v1
    val_main_call2_v0 val_main_call2_cst
  generalize val_main_v34 (F := Ideal) x0 x1 x2 x3 = z at h34 ⊢
  pointwise
  simp only [h34, ofBits_eps]
  rw [sum_row_col fun k d => v k d * v k d]
  exact allNorm_div v _ _

/-- The reference's result: the results of all elements, laid out in rows. -/
theorem ref_value (hx : ∀ n d t, x0 (ix3 n d t) = ((X n t d : ℝ) : EReal)) (hw : ∀ k d, x1 (ix2 k d) = ((w k d : ℝ) : EReal))
    (hb : ∀ k, x2 (ix1 k) = b k) :
    val_main_v39 (F := Ideal) x0 x1 x2 x3
      = fun i : S16x8192.Idx => flat w b X (fun k d => x3 (ix2 k d)) (i 0) (i 1) := by
  funext i
  have hi : i = ix2 (i 0 : Fin 16) (i 1 : Fin 8192) := by funext a; fin_cases a <;> rfl
  have hu := ref_unit x0 X hx
  have hl := ref_logit x0 x1 x2 w b X hu hw hb
  refine (congrArg (val_main_v39 (F := Ideal) x0 x1 x2 x3) hi).trans ?_
  by_cases hp : Proper b
  · have hs := ref_soft x0 x1 x2 w b X hl hp
    exact ref_all x0 x1 x2 x3 _ _ (ref_rows x0 x1 x2 x3 _ _ (ref_agg x0 x1 x2 x3 w b X hu hs _)) _
  · have hs := ref_soft_improper x0 x1 x2 w b X hl hp
    refine (ref_all x0 x1 x2 x3 _ _ (ref_rows x0 x1 x2 x3 _ _ fun k d => rfl) _).trans ?_
    exact allNorm_extreme _ (fun k d => ref_agg_improper x0 x1 x2 x3 hs (i 0) k d) _ (agg_improper w b _ _ hp) _ _

end Cert.NetVlad

end
-- ==== Proof.Finite.lean ====
/- What the precondition says: every entry of the descriptors and the weights is a real number. -/
module

public import proofs.«01_k».proof.Proof.Gen.Pre_finite
public import Idealize.ShloMosaic.Lib.ReduceAll
public import Idealize.ShloMosaic.Lib.Pointwise
public import Idealize.ShloMosaic.PureOps.Ideal.Laws

@[expose] public section

noncomputable section

namespace Cert.NetVlad

open Idealize.ShloMosaic Cert.Pre_finite Cert.Pre_finite.Gen

/-- The literal +∞. -/
theorem ofBits_posInf : Ideal.ofBits .f32 0x7F800000#32 = (⊤ : EReal) := by
  simp [Ideal.ofBits, Ideal.ieee]

/-- An extended real whose absolute value compares below +∞ is a real number. -/
theorem real_of_abs_lt (a : Ideal .f32)
    (h : FloatOps.cmpf .olt (FloatOps.hostAbsf a) (FloatOps.ofBits .f32 0x7F800000#32 : Ideal .f32) = 1#1) :
    ∃ r : ℝ, a = (r : EReal) := by
  have hlt : max (a : EReal) (-a) < ⊤ := by
    have h' : Ideal.cmp .olt (max (a : EReal) (-a)) (Ideal.ofBits .f32 0x7F800000#32) = 1#1 := h
    rw [ofBits_posInf] at h'
    by_contra hn
    simp [Ideal.cmp, hn] at h'
  obtain ⟨h1, h2⟩ := max_lt_iff.1 hlt
  have hbot : (a : EReal) ≠ ⊥ := by
    intro hb
    rw [hb] at h2
    simp at h2
  exact ⟨(a : EReal).toReal, (EReal.coe_toReal h1.ne hbot).symm⟩

/-- Where the precondition holds, the descriptors and the weights hold real numbers only. -/
theorem finite_of_pre (x : FVec Ideal S16x128x16384 .f32) (w : FVec Ideal S64x128 .f32) (b : FVec Ideal S64 .f32) (cent : FVec Ideal S64x128 .f32)
    (i : S_.Idx)
    (h : Cert.Pre_finite.fn (F := Ideal) x w b cent i = 1#1) :
    (∀ i, ∃ r : ℝ, x i = (r : EReal)) ∧ ∀ i, ∃ r : ℝ, w i = (r : EReal) := by
  unfold Cert.Pre_finite.fn at h
  obtain ⟨hx, hw⟩ := IntOp.andi_eq_one.1 h
  exact ⟨fun i => real_of_abs_lt _ (Host.reduce_andi_all _ _ _ _ _ hx i),
    fun i => real_of_abs_lt _ (Host.reduce_andi_all _ _ _ _ _ hw i)⟩

end Cert.NetVlad

end
-- ==== Proof.lean ====
/- The certificate's proof: the programs' frames, the two named constants, and the equality of the results, both of
   which are the NetVLAD vector `Cert.NetVlad.flat` of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.KernelValue
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem

/-- The reference ends with its arguments unchanged and, having no semaphores, with every counter zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run (F := Ideal) m g)

/-- Each named constant of the idealized kernel denotes the number the table gives its name. -/
theorem constants : Cert.preserves_Kernel_KernelIdeal :=
  ⟨IdealRules.named_const.statement Cert.KernelIdeal.κ "eps2" .f32 0x179ABE15#32 _ rfl,
    IdealRules.named_const.statement Cert.KernelIdeal.κ "log2e" .f32 0x3FB8AA3B#32 _ rfl⟩

/-- From memories that agree on the arguments, the descriptors and the weights being finite, the kernel and the
    reference end with one result, the NetVLAD vector. -/
theorem equal_results : Cert.algebraic_KernelIdeal_ReferenceIdeal_pre_finite := by
  intro m g m' g' hpre hagree
  have hfin := fun c => Cert.NetVlad.finite_of_pre _ _ _ _ _ (congrFun (hpre c) (fun a => a.elim0))
  choose X hX using fun c => (hfin c).1
  choose w hw using fun c => (hfin c).2
  refine ⟨_, Cert.NetVlad.kernel_run m g (fun c k j => w c (ix2 k j)) (fun c k => m ((c.tc : Thread Cert.KernelIdeal.nD Cert.KernelIdeal.τ).loc Cert.KernelIdeal.main_arg2) (ix1 k))
    (fun c n t d => X c (ix3 n d t))
    (fun c n d t => hX c _) (fun c k j => hw c _) (fun c k => rfl), ?_⟩
  refine (θ_run _ _ _).mono (fun r h c => ⟨(h c).1.trans ?_, (h c).2⟩) (Cert.ReferenceIdeal.Value.run (F := Ideal) m' g')
  obtain ⟨e0, e1, e2, e3⟩ := hagree c
  rw [Cert.ReferenceIdeal.Read.val_main_v39_eq, e0, e1, e2, e3]
  exact Cert.NetVlad.ref_value _ _ _ _ (fun k j => w c (ix2 k j)) (fun k => m ((c.tc : Thread Cert.KernelIdeal.nD Cert.KernelIdeal.τ).loc Cert.KernelIdeal.main_arg2) (ix1 k))
    (fun n t d => X c (ix3 n d t))
    (fun n d t => hX c _) (fun k d => hw c _) (fun k => rfl)

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    fun m g _ => reference_frame m g, fun m g _ => reference_frame m g, constants, equal_results⟩

end Cert.Proof

end
